-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x1024x512 : Shape := ⟨3, ![2, 1024, 512]⟩
abbrev S8 : Shape := ⟨1, ![8]⟩
abbrev S_ : Shape := ⟨0, ![]⟩
abbrev S256x512 : Shape := ⟨2, ![256, 512]⟩
abbrev S1 : Shape := ⟨1, ![1]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .local _ .vmem, ⟨0, _⟩ => ⟨S1024x512, .bf16⟩
  | .local _ .vmem, ⟨1, _⟩ => ⟨S1024x512, .f32⟩
  | .local _ .vmem, ⟨2, _⟩ => ⟨S1024x512, .bf16⟩
  | .local _ .vmem, ⟨3, _⟩ => ⟨S2x1024x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v22 : BitVec 32 := Scalar.muli v2 c2_i32_18
  let v23 : BitVec 32 := Scalar.addi c0_i32_19 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v24 : BitVec 32 := Scalar.muli v6 c1_i32_20
  let v25 : BitVec 32 := Scalar.addi v23 v24
  v25.toNat
def k0_dev4 (d0 : Dev nD) : Nat :=
  let c0_i32_32 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_31 : BitVec 32 := 2#32
  let v38 : BitVec 32 := Scalar.muli v7 c2_i32_31
  let v39 : BitVec 32 := Scalar.addi c0_i32_32 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v40 : BitVec 32 := Scalar.muli v5 c1_i32_33
  let v41 : BitVec 32 := Scalar.addi v39 v40
  v41.toNat
def k0_dev5 (d0 : Dev nD) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v54 : BitVec 32 := Scalar.muli v2 c2_i32_43
  let v55 : BitVec 32 := Scalar.addi c0_i32_44 v54
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_45 : BitVec 32 := 1#32
  let v56 : BitVec 32 := Scalar.muli v6 c1_i32_45
  let v57 : BitVec 32 := Scalar.addi v55 v56
  v57.toNat
def k0_dev6 (d0 : Dev nD) : Nat :=
  let c0_i32_55 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_54 : BitVec 32 := 2#32
  let v70 : BitVec 32 := Scalar.muli v7 c2_i32_54
  let v71 : BitVec 32 := Scalar.addi c0_i32_55 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v72 : BitVec 32 := Scalar.muli v5 c1_i32_56
  let v73 : BitVec 32 := Scalar.addi v71 v72
  v73.toNat
def k0_dev7 (d0 : Dev nD) : Nat :=
  let c0_i32_88 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_87 : BitVec 32 := 2#32
  let v102 : BitVec 32 := Scalar.muli v7 c2_i32_87
  let v103 : BitVec 32 := Scalar.addi c0_i32_88 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v104 : BitVec 32 := Scalar.muli v5 c1_i32_89
  let v105 : BitVec 32 := Scalar.addi v103 v104
  v105.toNat
def k0_dev8 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v134 : BitVec 32 := Scalar.muli v2 c2_i32_121
  let v135 : BitVec 32 := Scalar.addi c0_i32_122 v134
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v136 : BitVec 32 := Scalar.muli v6 c1_i32_123
  let v137 : BitVec 32 := Scalar.addi v135 v136
  v137.toNat
def k0_dev9 (d0 : Dev nD) : Nat :=
  let c0_i32_156 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_155 : BitVec 32 := 2#32
  let v166 : BitVec 32 := Scalar.muli v7 c2_i32_155
  let v167 : BitVec 32 := Scalar.addi c0_i32_156 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v168 : BitVec 32 := Scalar.muli v5 c1_i32_157
  let v169 : BitVec 32 := Scalar.addi v167 v168
  v169.toNat
def k0_dev10 (d0 : Dev nD) : Nat :=
  let c0_i32_190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_189 : BitVec 32 := 2#32
  let v198 : BitVec 32 := Scalar.muli v2 c2_i32_189
  let v199 : BitVec 32 := Scalar.addi c0_i32_190 v198
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_191 : BitVec 32 := 1#32
  let v200 : BitVec 32 := Scalar.muli v6 c1_i32_191
  let v201 : BitVec 32 := Scalar.addi v199 v200
  v201.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2x1024x2x512 : Shape := ⟨4, ![2, 1024, 2, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1024x2x512, .bf16⟩
  | .hbm, ⟨2, _⟩ => ⟨S2x1024x2x512, .f32⟩
  | .hbm, ⟨3, _⟩ => ⟨S_, .f32⟩
  | .hbm, ⟨4, _⟩ => ⟨S1024x512, .f32⟩
  | .hbm, ⟨5, _⟩ => ⟨S1024x512, .bf16⟩
  | .hbm, ⟨6, _⟩ => ⟨S1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Slices.lean ====
/- Loads and stores of a slice of a memref held by its elements, at the values the slice reads:
   nothing here mentions a program. -/
module

public import Idealize.ShloMosaic.Lib.Tactic
public import Idealize.ShloMosaic.Lib.Rounds
public import Idealize.ShloMosaic.Lib.Ring

@[expose] public section

noncomputable section

namespace Cert.Slices

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Effects

variable {nD : Nat} {τ : Topo} {sig : RefSig} {Ix : Type} [DecidableEq Ix] {Val : EltTy → Type}
variable {Name : Type} [DecidableEq Name] {U : Type} [URA U] {Lvl : Type} [Preorder Lvl]
variable {Λ : Labels} {A : Type}
variable {defs : Defs nD τ sig Val Λ} (𝒱 : Variants) (c : Thread nD τ) (E : Set Name)

local notation "𝕄" => MT nD τ sig Ix Val Name U Lvl

variable {s s' : Shape} {e : EltTy} {cs : CoreSpace} {m : Memref sig c.2.kind cs s e} {r : Rect s} {hr : ∀ a, r.stride a = 1}

/-- A load through the rectangle of a slice held at `X` continues at `X`. -/
theorem load_slice {hl : m.view.LoadsAt r.toLoadRect} {q : PosShare TreeShare} {X : r.shape.Idx → Val e}
    {k : (r.shape.Idx → Val e) → Prog (TpuEff nD τ sig Val Λ c.2) A} {Q : A → sProp 𝕄} :
    (owns c (m.slice r hr) q X : sProp 𝕄)
      ⊢ iprop((owns c (m.slice r hr) q X -∗ wp frame (wpE defs 𝒱 c none) E (k X) Q)
          -∗ wp frame (wpE defs 𝒱 c none) E (.op (.load m r.toLoadRect hl) k) Q) := by
  unfold owns
  iintro ⟨%f, %hf, H⟩ Hk
  subst hf
  iapply (wp_load_rect 𝒱 c none E (m := m) (r := r) (Finset.Subset.refl _)) $$ H
  iintro H
  iapply Hk
  iexists f
  isplitr
  · ipureintro; rfl
  · iexact H

/-- The same where the slice is held under a squeezed shape: the value loaded, cast to that shape, is the one held. -/
theorem load_squeezed {hs : r.shape.Squeezes s'} {hc : r.shape.ShapeCasts s'} {hl : m.view.LoadsAt r.toLoadRect}
    {q : PosShare TreeShare} {X : s'.Idx → Val e}
    {k : (r.shape.Idx → Val e) → Prog (TpuEff nD τ sig Val Λ c.2) A} {Q : A → sProp 𝕄} :
    (owns c ((m.slice r hr).squeeze s' hs) q X : sProp 𝕄)
      ⊢ iprop((∀ Y, ⌜shapeCast s' Y hc = X⌝ -∗ owns c ((m.slice r hr).squeeze s' hs) q X -∗ wp frame (wpE defs 𝒱 c none) E (k Y) Q)
          -∗ wp frame (wpE defs 𝒱 c none) E (.op (.load m r.toLoadRect hl) k) Q) := by
  unfold owns
  iintro ⟨%f, %hf, H⟩ Hk
  subst hf
  iapply (wp_load_rect 𝒱 c none E (m := m) (r := r) (S := ((m.slice r hr).squeeze s' hs).view.set) (by
    exact (View.set_reshape (v := m.view.slice r) hs.numel_eq).ge)) $$ H
  iintro H
  ihave Hk := Hk $$ %((m.access r).read Val f)
  iapply Hk
  · ipureintro; rfl
  iexists f
  isplitr
  · ipureintro; rfl
  · iexact H

/-- A store of a whole slice leaves it held at what was stored. -/
theorem store_slice {hx : (m.access r).Stores Finset.univ} {hm : (Finset.univ : Finset r.shape.Idx) = Finset.univ ∨ ∀ a, r.stride a = 1}
    {X w : r.shape.Idx → Val e} {k : PUnit → Prog (TpuEff nD τ sig Val Λ c.2) A} {Q : A → sProp 𝕄} :
    (owns c (m.slice r hr) fullShare X : sProp 𝕄)
      ⊢ iprop((owns c (m.slice r hr) fullShare w -∗ wp frame (wpE defs 𝒱 c none) E (k ⟨⟩) Q)
          -∗ wp frame (wpE defs 𝒱 c none) E (.op (.store m r w Finset.univ hx hm) k) Q) := by
  unfold owns
  iintro ⟨%f, -, H⟩ Hk
  iapply (wp_store 𝒱 c none E (m := m) (r := r) (Mk := Finset.univ) (S := (m.slice r hr).view.set) (by exact subset_rfl)) $$ H
  iintro H
  iapply Hk
  iexists _
  isplitr [H]
  rotate_left
  · iexact H
  · ipureintro; exact View.read_write_univ (v := m.access r) f w

end Effects

/-! ## A buffer held as disjoint slices that cover it -/

section Pieces

variable {nD : Nat} {τ : Topo} {sig : RefSig} {Ix : Type} [DecidableEq Ix] {Val : EltTy → Type}
variable {Name : Type} [DecidableEq Name] {U : Type} [URA U] {Lvl : Type}

local notation "𝕄" => MT nD τ sig Ix Val Name U Lvl

variable (c : Thread nD τ) (b : Ref sig c.2.kind) {I : Type} [Fintype I] [DecidableEq I] (r : I → Rect b.ty.shape)
  (hr : ∀ i a, (r i).stride a = 1)
  (apart : ∀ i j, i ≠ j → Disjoint (r i).set (r j).set) (cover : Finset.univ.biUnion (fun i => (r i).set) = Finset.univ)

/-- The elements of a slice of a whole buffer are those of its rectangle. -/
theorem slice_set (i : I) : ((Memref.whole b).slice (r i) (hr i)).view.set = (r i).set := View.set_slice_whole b (r i)

include apart cover in
/-- A buffer held whole is held slice by slice, each at what it reads. -/
theorem cut_whole (f : b.ty.Contents Val) :
    ((c.loc b) ↦{fullShare} f : sProp 𝕄)
      ⊢ bigSep Finset.univ fun i => owns c ((Memref.whole b).slice (r i) (hr i)) fullShare (((Memref.whole b).slice (r i) (hr i)).view.read Val f) := by
  refine (Entails.of_eq (Ring.pointsTo_blocks (ℓ := c.loc b) (fun i => (r i).set) apart cover f)).trans (bigSep_mono fun i _ => ?_)
  refine Entails.trans (Entails.of_eq ?_) (owns_intro c ((Memref.whole b).slice (r i) (hr i)) fullShare f)
  rw [slice_set c b r hr i]

include apart cover in
/-- Slices held at values of their own join to the buffer at contents that read each of them. -/
theorem paste_whole [Nonempty (b.ty.Contents Val)] (Y : (i : I) → (r i).shape.Idx → Val b.ty.elt) :
    (bigSep Finset.univ fun i => owns c ((Memref.whole b).slice (r i) (hr i)) fullShare (Y i))
      ⊢ (iprop(∃ f : b.ty.Contents Val, ⌜∀ i, ((Memref.whole b).slice (r i) (hr i)).view.read Val f = Y i⌝ ∗ ((c.loc b) ↦{fullShare} f)) : sProp 𝕄) := by
  refine (bigSep_mono (Ψ := fun i => iprop(∃ f : b.ty.Contents Val, ⌜((Memref.whole b).slice (r i) (hr i)).view.read Val f = Y i⌝
      ∗ ((c.loc b) ↦[(r i).set]{fullShare} f))) fun i _ => ?_).trans ?_
  · unfold owns
    rw [slice_set c b r hr i]; exact .refl _
  refine (bigSep_exists_pi Finset.univ fun i (f : b.ty.Contents Val) => (iprop(⌜((Memref.whole b).slice (r i) (hr i)).view.read Val f = Y i⌝
      ∗ ((c.loc b) ↦[(r i).set]{fullShare} f)) : sProp 𝕄)).trans ?_
  iintro ⟨%fs, H⟩
  ihave H := (bigSep_pure_sep Finset.univ (fun i => ((Memref.whole b).slice (r i) (hr i)).view.read Val (fs i) = Y i)
    (fun i => ((c.loc b) ↦[(r i).set]{fullShare} fs i))) $$ H
  icases H with ⟨%hp, H⟩
  ihave H := (pointsTo_biUnion_join (ℓ := c.loc b) Finset.univ (fun i => (r i).set) fs (Classical.arbitrary _) (fun i _ j _ => apart i j)) $$ H
  icases H with ⟨%g, %hg, H⟩
  rw [cover]
  iexists g
  isplitr [H]
  · ipureintro
    intro i
    rw [← hp i (Finset.mem_univ i)]
    exact View.read_congr fun k hk => hg i (Finset.mem_univ i) k ((slice_set c b r hr i) ▸ hk)
  · iexact H

include apart cover in
/-- To hold a buffer at some contents is to hold each slice at some values. -/
theorem held_pieces [∀ e, Nonempty (Val e)] :
    (iprop(∃ f : Buf Val (c.loc b), (c.loc b) ↦{fullShare} f) : sProp 𝕄)
      = bigSep Finset.univ fun i => iprop(∃ X, owns c ((Memref.whole b).slice (r i) (hr i)) fullShare X) := by
  haveI : Nonempty (b.ty.Contents Val) := ⟨fun _ => Classical.arbitrary _⟩
  haveI (i : I) : Nonempty ((r i).shape.Idx → Val b.ty.elt) := ⟨fun _ => Classical.arbitrary _⟩
  have h₁ : (iprop(∃ f : Buf Val (c.loc b), (c.loc b) ↦{fullShare} f) : sProp 𝕄)
      ⊢ bigSep Finset.univ fun i => iprop(∃ X, owns c ((Memref.whole b).slice (r i) (hr i)) fullShare X) := by
    have h₀ (f : Buf Val (c.loc b)) : (bigSep Finset.univ fun i => owns c ((Memref.whole b).slice (r i) (hr i)) fullShare (((Memref.whole b).slice (r i) (hr i)).view.read Val f))
        ⊢ (bigSep Finset.univ fun i => iprop(∃ X, owns c ((Memref.whole b).slice (r i) (hr i)) fullShare X) : sProp 𝕄) :=
      bigSep_mono fun i _ => by
        show owns c ((Memref.whole b).slice (r i) (hr i)) fullShare _ ⊢ (iprop(∃ X, owns c ((Memref.whole b).slice (r i) (hr i)) fullShare X) : sProp 𝕄)
        iintro H; iexists _; iexact H
    iintro ⟨%f, H⟩
    iapply (h₀ f)
    iapply (cut_whole c b r hr apart cover f) $$ H
  have h₂ : (bigSep Finset.univ fun i => iprop(∃ X, owns c ((Memref.whole b).slice (r i) (hr i)) fullShare X))
      ⊢ (iprop(∃ f : Buf Val (c.loc b), (c.loc b) ↦{fullShare} f) : sProp 𝕄) := by
    refine (bigSep_exists_pi Finset.univ fun i X => (owns c ((Memref.whole b).slice (r i) (hr i)) fullShare X : sProp 𝕄)).trans ?_
    iintro ⟨%Y, H⟩
    ihave H := (paste_whole c b r hr apart cover Y) $$ H
    icases H with ⟨%f, -, H⟩
    iexists f; iexact H
  exact BI.equiv_iff.mp ⟨h₁, h₂⟩

/-- A slice held under a squeezed shape is held under its own, and back. -/
theorem unsqueeze {sp : Space} {s s' : Shape} {e : EltTy} (m : Memref sig c.2.kind sp s e) (hs : s.Squeezes s') (q : PosShare TreeShare) :
    (iprop(∃ X, owns c (m.squeeze s' hs) q X) : sProp 𝕄) = iprop(∃ X, owns c m q X) := by
  have hset : (m.squeeze s' hs).view.set = m.view.set := View.set_reshape (v := m.view) hs.numel_eq
  have h₁ : (iprop(∃ X, owns c (m.squeeze s' hs) q X) : sProp 𝕄) ⊢ iprop(∃ X, owns c m q X) := by
    unfold owns
    rw [hset]
    iintro ⟨%X, %f, -, H⟩
    iexists (m.view.read Val f); iexists f
    isplitr; · (ipureintro; rfl)
    iexact H
  have h₂ : (iprop(∃ X, owns c m q X) : sProp 𝕄) ⊢ iprop(∃ X, owns c (m.squeeze s' hs) q X) := by
    unfold owns
    rw [hset]
    iintro ⟨%X, %f, -, H⟩
    iexists ((m.squeeze s' hs).view.read Val f); iexists f
    isplitr; · (ipureintro; rfl)
    iexact H
  exact BI.equiv_iff.mp ⟨h₁, h₂⟩

end Pieces

end Cert.Slices

end
-- ==== Proof.KernelIdeal.Plan.lean ====
/- The exchange as a plan: who meets whom, what each semaphore stands for, what every message holds, and in which
   order the waits may happen. Four devices stand at the corners of a square; each array is sent in four quarters of
   256 rows. A quarter first crosses one side of the square and then the other: quarters 0 and 1 cross to the
   neighbour with the other last coordinate first, quarters 2 and 3 to the one with the other first coordinate. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Slices

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- Any contents, every counter at zero, any generator registers. -/
def s₀ : MemSt nD τ sig (Elt F) := ⟨m, fun _ => 0, ρ⟩

/-! ## The square -/

set_option backward.proofsInPublic true in
/-- The neighbour across one side of the square: `false` changes the last coordinate, `true` the first. -/
def nb : Bool → Dev nD → Dev nD
  | false, c => ⟨(2 * (c.val / 2) + 1) - (c.val % 2), by have : c.val < 4 := c.isLt; show _ < 4; omega⟩
  | true, c => ⟨((c.val % 2) + 2) - 2 * (c.val / 2), by have : c.val < 4 := c.isLt; show _ < 4; omega⟩

theorem nb_nb (b : Bool) (c : Dev nD) : nb b (nb b c) = c := by revert b c; decide

/-- Crossing one side, as a permutation of the devices. -/
def across (b : Bool) : Dev nD ≃ Dev nD := ⟨nb b, nb b, nb_nb b, nb_nb b⟩

/-- Message `j` carries quarter `j % 4`; messages 0 to 3 are the first crossing, 4 to 7 the second. -/
def qtr (j : Fin 8) : Fin 4 := ⟨j.val % 4, Nat.mod_lt _ (by decide)⟩
/-- Which side message `j` crosses. -/
def side (j : Fin 8) : Bool := decide (2 ≤ j.val ∧ j.val < 6)
/-- Which side quarter `i` crosses first. -/
def side₁ (i : Fin 4) : Bool := decide (2 ≤ i.val)
/-- Where message `j` of device `c` goes, and where its counterpart comes from. -/
def peer (j : Fin 8) (c : Dev nD) : Dev nD := nb (side j) c

theorem peer_peer (j : Fin 8) (c : Dev nD) : peer j (peer j c) = c := nb_nb _ _

/-! ## The buffers, their quarters and the semaphores -/

abbrev xM : Memref sig .tc .vmem S1024x512 .bf16 := Memref.whole cc0_stg0_0
abbrev oM : Memref sig .tc .vmem S1024x512 .f32 := Memref.whole cc0_stg1_0
abbrev sM : Memref sig .tc .vmem S1024x512 .bf16 := Memref.whole cc0_scratch0
abbrev rM : Memref sig .tc .vmem S2x1024x512 .bf16 := Memref.whole cc0_scratch1

theorem rows_inb (i : Fin 4) : ∀ a, (![256 * i.val, 0] : Fin 2 → Nat) a + S256x512.size a ≤ S1024x512.size a := by
  revert i; decide
theorem slot_inb (j : Fin 8) : ∀ a, (![j.val / 4, 256 * (j.val % 4), 0] : Fin 3 → Nat) a + S1x256x512.size a ≤ S2x1024x512.size a := by
  revert j; decide
theorem sem_inb (j : Fin 8) : ∀ a, (![j.val] : Fin 1 → Nat) a + S1.size a ≤ S8.size a := by
  revert j; decide

/-- The rows of quarter `i`. -/
abbrev rows (i : Fin 4) : Rect S1024x512 := Rect.unit (s := S1024x512) ![256 * i.val, 0] S256x512.size (rows_inb i)
/-- The landing place of message `j`. -/
abbrev slot (j : Fin 8) : Rect S2x1024x512 := Rect.unit (s := S2x1024x512) ![j.val / 4, 256 * (j.val % 4), 0] S1x256x512.size (slot_inb j)

/-- Quarter `i` of the outgoing buffer, of the result, and the landing place of message `j` as a quarter. -/
abbrev sQ (i : Fin 4) : Memref sig .tc .vmem S256x512 .bf16 := sM.slice (rows i) (fun _ => rfl)
abbrev oQ (i : Fin 4) : Memref sig .tc .vmem S256x512 .f32 := oM.slice (rows i) (fun _ => rfl)
abbrev xQ (i : Fin 4) : Memref sig .tc .vmem S256x512 .bf16 := xM.slice (rows i) (fun _ => rfl)
abbrev rQ (j : Fin 8) : Memref sig .tc .vmem S256x512 .bf16 := (rM.slice (slot j) (fun _ => rfl)).squeeze S256x512 squeezes_S1x256x512_S256x512

abbrev barS : Sem sig := (SemArray.scalar (sig.barrier 0 rfl) : Sems sig S_).sem
abbrev outS (j : Fin 8) : DmaSem sig := ((cc0_scratch2.slice (Rect.unit (s := S8) ![j.val] S1.size (sem_inb j))).squeeze S_ squeezes_S1_S_).sem
abbrev inS (j : Fin 8) : DmaSem sig := ((cc0_scratch3.slice (Rect.unit (s := S8) ![j.val] S1.size (sem_inb j))).squeeze S_ squeezes_S1_S_).sem

/-- What a semaphore is for: the handshake, or message `j` having left (`false`) or arrived (`true`). -/
abbrev Role : Type := Option (Bool × Fin 8)

abbrev semOf : Role → SemLoc sig
  | none => .reg barS
  | some (false, j) => .dma (outS j)
  | some (true, j) => .dma (inS j)

theorem outS_val (j : Fin 8) : (outS j).val = 2 + j.val := by revert j; decide
theorem inS_val (j : Fin 8) : (inS j).val = 10 + j.val := by revert j; decide

set_option backward.proofsInPublic true in
/-- The role of each semaphore, if it has one. -/
def roleOf : SemLoc sig → Option Role
  | .reg _ => some none
  | .dma s => if h : s.val < 2 then none else if h' : s.val < 10 then some (some (false, ⟨s.val - 2, by omega⟩))
      else some (some (true, ⟨s.val - 10, by have : s.val < 18 := s.isLt; omega⟩))

theorem roleOf_semOf (k : Role) : roleOf (semOf k) = some k := by
  rcases k with _ | ⟨b, j⟩
  · rfl
  · cases b <;> (revert j; decide)

theorem semOf_injective : Function.Injective semOf := fun k k' h =>
  Option.some.inj ((roleOf_semOf k).symm.trans ((congrArg roleOf h).trans (roleOf_semOf k')))

abbrev cell (c : Dev nD) (k : Role) : GSem nD τ sig := ((c : Thread nD τ), semOf k)
abbrev barC (c : Dev nD) : GSem nD τ sig := cell c none
abbrev outC (c : Dev nD) (j : Fin 8) : GSem nD τ sig := cell c (some (false, j))
abbrev inC (c : Dev nD) (j : Fin 8) : GSem nD τ sig := cell c (some (true, j))

theorem cell_inj {c c' : Dev nD} {k k' : Role} (h : cell c k = cell c' k') : c = c' ∧ k = k' :=
  ⟨congrArg (fun g : GSem nD τ sig => g.1.1) h, semOf_injective (congrArg Prod.snd h)⟩

/-- What one message adds to a semaphore. -/
abbrev N : ℕ := (rQ 0).view.dmaCredit
theorem N_pos : 0 < N := View.dmaCredit_pos _ (by decide)
theorem credit_rQ (j : Fin 8) : (rQ j).view.dmaCredit = N := rfl
theorem credit_sQ (i : Fin 4) : (sQ i).view.dmaCredit = N := rfl

/-! ## Contents

Everything is said of whole arrays and then cut: what device `c` started with, what it holds of quarter `i` after the
first crossing, and its result there. -/

/-- Device `c`'s own block. -/
def own₀ (c : Dev nD) : Vec F S1024x512 .bf16 :=
  (win0_0.blk (0 : Fin 1)).view.read (Elt F) ((s₀ m ρ).mem ((c : Thread nD τ).loc main_arg0))
/-- After the first crossing of quarter `i`: its own block and the first neighbour's. -/
def own₁ (i : Fin 4) (c : Dev nD) : Vec F S1024x512 .bf16 := addf (own₀ m ρ c) (own₀ m ρ (nb (side₁ i) c))
/-- After the second: that and the second neighbour's, widened. -/
def own₂ (i : Fin 4) (c : Dev nD) : Vec F S1024x512 .f32 := extf .f32 (addf (own₁ m ρ i c) (own₁ m ρ i (nb (!side₁ i) c))) bitsLt_bf16_f32

/-- The rows of quarter `i` of an array. -/
def cut {e : EltTy} (i : Fin 4) (V : S1024x512.Idx → Elt F e) : S256x512.Idx → Elt F e := fun y => V ((rows i).emb y)

/-- What message `j` of device `c` holds. -/
def msg (j : Fin 8) (c : Dev nD) : Vec F S256x512 .bf16 :=
  if j.val < 4 then cut (qtr j) (own₀ m ρ c) else cut (qtr j) (own₁ m ρ (qtr j) c)

set_option backward.proofsInPublic true in
/-- The quarter a row lies in. -/
def qtrAt (k : S1024x512.Idx) : Fin 4 := ⟨(k 0).val / 256, by have : (k 0).val < 1024 := (k 0).isLt; omega⟩

/-- Device `c`'s result. -/
def outAt (c : Dev nD) : (cc0_stg1_0 : Ref sig .tc).ty.Contents (Elt F) := fun k => own₂ m ρ (qtrAt k) c k

/-! ## The schedule -/

/-- What the neighbour across side `b` hands device `c` at the handshake: the places where `c`'s messages land. -/
def barPay (c : Dev nD) (b : Bool) : sProp 𝕄 :=
  bigSep (Finset.univ.filter fun j : Fin 8 => side j = b) fun j => iprop(∃ X, owns (peer j c : Thread nD τ) (rQ j) fullShare X)
/-- What the end of message `j`'s sending gives back, and what its arrival brings. -/
def outPay (c : Dev nD) (j : Fin 8) : sProp 𝕄 := owns (c : Thread nD τ) (sQ (qtr j)) fullShare (msg m ρ j c)
def inPay (c : Dev nD) (j : Fin 8) : sProp 𝕄 := owns (c : Thread nD τ) (rQ j) fullShare (msg m ρ j (peer j c))

/-- The payload of a role's duty. -/
def payOf (c : Dev nD) : Role → Bool → sProp 𝕄
  | none, b => barPay c b
  | some (false, j), _ => outPay m ρ c j
  | some (true, j), _ => inPay m ρ c j
def dutiesOf : Role → Finset Bool
  | none => Finset.univ
  | some _ => {false}
def amountOf : Role → ℕ
  | none => 1
  | some _ => N

omit [FloatOps F] in
instance barPay_storable (c : Dev nD) (b : Bool) : BI.Storable (upEmb : UEmb _ 𝕄) (barPay (F := F) c b) := by unfold barPay; infer_instance
instance payOf_storable (c : Dev nD) (k : Role) (b : Bool) : BI.Storable (upEmb : UEmb _ 𝕄) (payOf (F := F) m ρ c k b) := by
  rcases k with _ | ⟨_ | _, j⟩
  · exact barPay_storable c b
  · show BI.Storable upEmb (outPay m ρ c j); unfold outPay; infer_instance
  · show BI.Storable upEmb (inPay m ρ c j); unfold inPay; infer_instance

/-- One round: each handshake semaphore is raised once by each neighbour, each of the others once by its message. -/
def sched : Rounds.Schedule (GSem nD τ sig) Bool 𝕄 where
  duties g r := if r = 0 ∧ g.1.2 = .tc then ((roleOf g.2).map dutiesOf).getD ∅ else ∅
  unitless _ := False
  amount g _ _ := ((roleOf g.2).map amountOf).getD 1
  payload g _ d := ((roleOf g.2).map fun k => payOf m ρ g.1.1 k d).getD iprop(emp)
  amount_pos g _ _ _ := by
    cases roleOf g.2 with
    | none => exact Nat.one_pos
    | some k => cases k; exacts [Nat.one_pos, N_pos]

instance sched_storable (g : GSem nD τ sig) (r : ℕ) (d : Bool) :
    BI.Storable (upEmb : UEmb _ 𝕄) ((sched (F := F) m ρ).payload g r d) := by
  show BI.Storable upEmb (((roleOf g.2).map fun k => payOf m ρ g.1.1 k d).getD iprop(emp))
  cases roleOf g.2 with
  | none => exact inferInstanceAs (BI.Storable upEmb iprop(emp))
  | some k => exact payOf_storable m ρ g.1.1 k d

section Sched
variable (c : Dev nD) (k : Role)

theorem duties_eq : (sched (F := F) m ρ).duties (cell c k) 0 = dutiesOf k := by
  dsimp only [sched]; rw [if_pos ⟨rfl, rfl⟩, roleOf_semOf]; rfl
theorem duties_later (g : GSem nD τ sig) : ∀ r, 1 ≤ r → (sched (F := F) m ρ).duties g r = ∅ :=
  fun r hr => by dsimp only [sched]; rw [if_neg fun h => by omega]
theorem amount_eq (d : Bool) : (sched (F := F) m ρ).amount (cell c k) 0 d = amountOf k := by
  dsimp only [sched]; rw [roleOf_semOf]; rfl
theorem payload_eq (d : Bool) : (sched (F := F) m ρ).payload (cell c k) 0 d = payOf m ρ c k d := by
  dsimp only [sched]; rw [roleOf_semOf]; rfl

theorem expect_bar : (sched (F := F) m ρ).expect (barC c) 0 = 2 := by
  unfold Schedule.expect Schedule.amountOf
  rw [duties_eq, Finset.sum_congr rfl fun d _ => amount_eq m ρ c none d]; rfl
theorem expect_msg (bj : Bool × Fin 8) : (sched (F := F) m ρ).expect (cell c (some bj)) 0 = N := by
  unfold Schedule.expect Schedule.amountOf
  rw [duties_eq, Finset.sum_congr rfl fun d _ => amount_eq m ρ c (some bj) d]; exact Finset.sum_singleton _ _

/-- All a handshake brings: the landing place of every message. -/
theorem rest_bar : bigSep ((sched (F := F) m ρ).duties (barC c) 0 \ ∅) (fun d => (sched (F := F) m ρ).payload (barC c) 0 d)
    = bigSep Finset.univ fun j : Fin 8 => iprop(∃ X, owns (peer j c : Thread nD τ) (rQ j) fullShare X) := by
  rw [Finset.sdiff_empty, duties_eq, bigSep_congr fun d _ => payload_eq m ρ c none d,
    bigSep_filter_split (Finset.univ : Finset (Fin 8)) (fun j => side j = true)]
  show bigSep Finset.univ (barPay c) = _
  rw [bigSep_univ_eq_bigSepL [true, false] (by decide) (by decide), bigSepL_cons_cons, bigSepL_singleton]
  unfold barPay
  simp only [Bool.not_eq_true]
theorem rest_msg (bj : Bool × Fin 8) :
    bigSep ((sched (F := F) m ρ).duties (cell c (some bj)) 0 \ ∅) (fun d => (sched (F := F) m ρ).payload (cell c (some bj)) 0 d) = payOf m ρ c (some bj) false := by
  rw [Finset.sdiff_empty, duties_eq, bigSep_congr fun d _ => payload_eq m ρ c (some bj) d]; exact bigSep_singleton

end Sched

/-! ## What is owed, and in which order the waits happen -/

/-- The arrivals device `c` still owes, the next to be sent first in the list. -/
def due (c : Dev nD) : List (Fin 8) → CellTallies nD τ sig Unit
  | [] => 0
  | j :: l => due c l + tallyAt (inC (peer j c) j) () N

/-- The order in which every device sends. -/
abbrev order : List (Fin 8) := [0, 2, 1, 3, 4, 6, 5, 7]

/-- What device `c` owes at launch: all its arrivals and a unit to each neighbour's handshake. -/
def O₁ (c : Dev nD) : CellTallies nD τ sig Unit := due c order + tallyAt (barC (nb true c)) () 1
def O₀ (c : Dev nD) : CellTallies nD τ sig Unit := O₁ c + tallyAt (barC (nb false c)) () 1

def L (g : GSem nD τ sig) : Finset Unit := if g.1.2 = .tc then {()} else ∅
/-- The handshake is below every arrival, and the arrivals of the first crossing below those of the second. -/
def roleLv : Role → ℕ
  | none => 1
  | some (false, _) => 0
  | some (true, j) => if j.val < 4 then 2 else 3
def lv (g : GSem nD τ sig) (_ : Unit) : ℕ := ((roleOf g.2).map roleLv).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Role) : lv (cell c k) () = roleLv k := by unfold lv; rw [roleOf_semOf]; rfl

theorem due_pos {c : Dev nD} {g : GSem nD τ sig} {u : Unit} {l : List (Fin 8)} (h : 0 < due c l g u) : ∃ j ∈ l, g = inC (peer j c) j := by
  induction l with
  | nil => exact absurd h (Nat.lt_irrefl 0)
  | cons j l ih =>
    unfold due at h
    rw [Pi.add_apply, Finsupp.add_apply, tallyAt_apply] at h
    by_cases hg : g = inC (peer j c) j ∧ u = ()
    · exact ⟨j, List.mem_cons_self, hg.1⟩
    · rw [if_neg hg, Nat.add_zero] at h
      obtain ⟨j', hj', e⟩ := ih h
      exact ⟨j', List.mem_cons_of_mem _ hj', e⟩

theorem O₀_pos {c : Dev nD} {g : GSem nD τ sig} {u : Unit} (h : 0 < O₀ c g u) :
    ∃ (c' : Dev nD) (k : Role), g = cell c' k ∧ 0 < roleLv k := by
  unfold O₀ O₁ at h
  rw [Pi.add_apply, Finsupp.add_apply, Pi.add_apply, Finsupp.add_apply, tallyAt_apply, tallyAt_apply] at h
  by_cases h1 : g = barC (nb true c) ∧ u = ()
  · exact ⟨_, none, h1.1, Nat.one_pos⟩
  by_cases h2 : g = barC (nb false c) ∧ u = ()
  · exact ⟨_, none, h2.1, Nat.one_pos⟩
  rw [if_neg h1, if_neg h2] at h
  replace h : 0 < due c order g u := h
  obtain ⟨j, -, e⟩ := due_pos h
  refine ⟨_, _, e, ?_⟩
  show 0 < if j.val < 4 then 2 else 3
  split <;> decide

/-- A device may wait at a semaphore while it owes only arrivals above it. -/
theorem mayWait_due (c : Dev nD) (k : Role) (l : List (Fin 8)) (h : ∀ j ∈ l, roleLv k < roleLv (some (true, j))) :
    (levAts L lv : sProp 𝕄) ⊢ MayWait (c : Thread nD τ) (semOf k) () (due c l) :=
  MayOwe.of_cut (L := L) (lev := lv) (roleLv k)
    (fun p hp => by rw [Finset.mem_singleton.mp hp, L_tc]; exact Finset.mem_singleton_self _)
    (fun g u hg => by obtain ⟨j, -, rfl⟩ := due_pos hg; rw [L_tc]; exact Finset.mem_singleton_self _)
    (fun p hp => by rw [Finset.mem_singleton.mp hp]; exact (lv_cell c k).le)
    (fun g u hg => by obtain ⟨j, hj, rfl⟩ := due_pos hg; exact (h j hj).trans_eq (lv_cell _ (some (true, j))).symm)

/-- The copies into and out of the kernel's memory are waited for at the lowest level. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by obtain ⟨c', k, rfl, -⟩ := O₀_pos hg; rw [L_tc]; exact Finset.mem_singleton_self _)
      (fun p hp => by
        rw [Finset.mem_singleton.mp hp]
        show ((roleOf (.dma q)).map roleLv).getD 0 ≤ 0
        simp only [roleOf, dif_pos hq]; exact le_rfl)
      (fun g u hg => by obtain ⟨c', k, rfl, hk⟩ := O₀_pos hg; exact hk.trans_eq (lv_cell c' k).symm)
  · rw [MayWait_zero]; iintro -; iempintro

end Cert.KernelIdeal.Exchange

end
-- ==== Proof.KernelIdeal.Steps.lean ====
/- One rule for every kind of step the exchange takes, stated for every message or every quarter at once. -/
module

public import proofs.«01_k».proof.Proof.KernelIdeal.Plan

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Slices

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What every device may know for good: each semaphore is governed by the schedule, and its round is open. -/
def records (K : Dev nD × Role → ℕ) : sProp 𝕄 :=
  bigSep Finset.univ fun ck : Dev nD × Role => iprop(cellInv EX (sched m ρ) (K ck) (cell ck.1 ck.2) ∗ reached EX (cell ck.1 ck.2) 0)

instance records_persistent (K : Dev nD × Role → ℕ) : BI.Persistent (records m ρ K) := by unfold records; infer_instance

theorem records_at (K : Dev nD × Role → ℕ) (c : Dev nD) (k : Role) :
    records m ρ K ⊢ iprop(cellInv EX (sched m ρ) (K (c, k)) (cell c k) ∗ reached EX (cell c k) 0) := by
  unfold records
  exact bigSep_elim (Finset.mem_univ (c, k))

/-- Device `c` still owes the arrivals in the list, whatever it has waited for. -/
def owing (c : Dev nD) (O : CellTallies nD τ sig Unit) : sProp 𝕄 := iprop(∃ W, owes (c : Thread nD τ) O W)

/-- The staged block of device `c`. -/
def xHeld (c : Dev nD) : sProp 𝕄 := iprop((c : Thread nD τ).loc cc0_stg0_0 ↦{fullShare} own₀ m ρ c)

/-- What is to be shown of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (K : Dev nD × Role → ℕ) (c : Dev nD) {α : Type} {Q : α → sProp (MT nD τ sig Unit (Elt F) ℕ UU ℕ)}

/-- A unit to the handshake of the neighbour across side `b`, with the landing places of the messages that cross it. -/
theorem greet (b : Bool) (n : Dev nD) (hn : n = nb b c) (O : CellTallies nD τ sig Unit) {k : PUnit → Prog (TpuEff nD τ sig (Elt F) Λ₀ .tc) α} :
    iprop(records m ρ K ∗ owing c (O + tallyAt (barC (nb b c)) () 1) ∗ dutyTok EX (barC (nb b c)) 0 b
        ∗ bigSep (Finset.univ.filter fun j : Fin 8 => side j = b) fun j => iprop(∃ X, owns (c : Thread nD τ) (rQ j) fullShare X))
      ⊢ iprop((owing c O -∗ WP c (k ⟨⟩) Q) -∗ WP c (.op (.semSignal (n, .tc) barS (1#32 : BitVec 32).toInt) k) Q) := by
  subst hn
  unfold owing
  iintro ⟨#HR, ⟨%W, HO⟩, Ht, Hp⟩ Hk
  ihave #HI := (records_at m ρ K (nb b c) none) $$ HR
  icases HI with ⟨#HI, #Hr⟩
  iapply (Rounds.wp_signal 𝒱₀ EX (sched m ρ) (c : Thread nD τ) none (dst := (nb b c : Thread nD τ)) (κ := K (nb b c, none))
      (d := b) (by show b ∈ (sched m ρ).duties (barC (nb b c)) 0; rw [duties_eq]; exact Finset.mem_univ _) ((amount_eq m ρ (nb b c) none b).trans (by decide)) () O rfl) $$ [HO Ht Hp]
  · isplitr; · iexact HI
    isplitl [HO]; · iexact HO
    isplitl [Ht]; · iexact Ht
    isplitl [Hp]
    · iapply (Entails.of_eq (payload_eq m ρ (nb b c) none b).symm)
      unfold payOf barPay
      iapply (Entails.of_eq (bigSep_congr fun j hj => by
        rw [peer, (Finset.mem_filter.mp hj).2, nb_nb])) $$ Hp
    · iexact Hr
  iintro HO
  iapply Hk
  iexists W; iexact HO

/-- The wait for both neighbours' units, which brings the landing place of every message. -/
theorem meet {k : PUnit → Prog (TpuEff nD τ sig (Elt F) Λ₀ .tc) α} :
    iprop(records m ρ K ∗ levAts L lv ∗ cred (tallyAt (barC c) () 2) ∗ owing c (due c order) ∗ atPos EX (barC c) 0 ∅ 0)
      ⊢ iprop((owing c (due c order) ∗ semVal (barC c) 0 ∗ (bigSep Finset.univ fun j : Fin 8 => iprop(∃ X, owns (peer j c : Thread nD τ) (rQ j) fullShare X))
            -∗ WP c (k ⟨⟩) Q)
          -∗ WP c (.op (.semWait barS (2#32 : BitVec 32).toInt) k) Q) := by
  unfold owing
  iintro ⟨#HR, #Hlev, Hc, ⟨%W, HO⟩, Ha⟩ Hk
  ihave #HI := (records_at m ρ K c none) $$ HR
  icases HI with ⟨#HI, -⟩
  iapply (Rounds.wp_wait_rest_token 𝒱₀ EX (sched m ρ) (c : Thread nD τ) none (κ := K (c, none))
      (wpE_semWait_eq 𝒱₀ (c : Thread nD τ) none Set.univ) (Set.mem_univ _) () (O := due c order) (W := W) (R := 0) (m := 0) (T := ∅)
      (by rw [expect_bar]; decide)) $$ [Hc HO Ha]
  · isplitr; · iexact HI
    isplitl [Hc]; · iexact Hc
    isplitl [HO]; · iexact HO
    isplitr; · iapply (mayWait_due c none order (by decide)); iexact Hlev
    iexact Ha
  iintro ⟨HO, Ha, -, Hp⟩
  ihave Hp := (Entails.of_eq (rest_bar m ρ c)) $$ Hp
  imod (Rounds.cell_close EX (sched m ρ) (Set.mem_univ (K (c, none))) (fun h => h) (R := 0 + 1) (duties_later m ρ (barC c))) $$ [Ha] with Hz
  · isplitr; · iexact HI
    iexact Ha
  iapply Hk
  isplitl [HO]; · iexists _; iexact HO
  isplitl [Hz]; · iexact Hz
  iexact Hp

/-- The wait for a message to have left, or for its counterpart to have come: what it stands for is the device's, and
    the semaphore is done with. -/
theorem await (b : Bool) (j : Fin 8) (q : DmaSem sig) (hq : semOf (some (b, j)) = .dma q) (l : List (Fin 8))
    (h : ∀ i ∈ l, roleLv (some (b, j)) < roleLv (some (true, i)))
    {s s' : Shape} {e e' : EltTy} {src : Memref sig .tc .vmem s' e'} {dst : Memref sig .tc .vmem s e}
    {hsrc : src.view.WordExact} {hdst : dst.view.WordExact} (hN : dst.view.dmaCredit = N)
    {k : PUnit → Prog (TpuEff nD τ sig (Elt F) Λ₀ .tc) α} :
    iprop(records m ρ K ∗ levAts L lv ∗ cred (tallyAt (cell c (some (b, j))) () N) ∗ owing c (due c l) ∗ atPos EX (cell c (some (b, j))) 0 ∅ 0)
      ⊢ iprop((owing c (due c l) ∗ semVal (cell c (some (b, j))) 0 ∗ payOf m ρ c (some (b, j)) false -∗ WP c (k ⟨⟩) Q)
          -∗ WP c (.op (.waitDma2 q src dst hsrc hdst) k) Q) := by
  unfold owing
  iintro ⟨#HR, #Hlev, Hc, ⟨%W, HO⟩, Ha⟩ Hk
  ihave #HI := (records_at m ρ K c (some (b, j))) $$ HR
  icases HI with ⟨#HI, -⟩
  iapply (Rounds.wp_wait_rest_token 𝒱₀ EX (sched m ρ) (c : Thread nD τ) none (sm := semOf (some (b, j))) (k' := N) (κ := K (c, some (b, j)))
      (fun P => by rw [hq, ← hN]; exact wpE_waitDma2_eq 𝒱₀ (c : Thread nD τ) none Set.univ P) (Set.mem_univ _) () (O := due c l) (W := W) (R := 0) (m := 0) (T := ∅)
      (by rw [Nat.zero_add, expect_msg])) $$ [Hc HO Ha]
  · isplitr; · iexact HI
    isplitl [Hc]; · iexact Hc
    isplitl [HO]; · iexact HO
    isplitr; · iapply (mayWait_due c (some (b, j)) l h); iexact Hlev
    iexact Ha
  iintro ⟨HO, Ha, -, Hp⟩
  ihave Hp := (Entails.of_eq (rest_msg m ρ c (b, j))) $$ Hp
  imod (Rounds.cell_close EX (sched m ρ) (Set.mem_univ (K (c, some (b, j)))) (fun h => h) (R := 0 + 1) (duties_later m ρ (cell c (some (b, j))))) $$ [Ha] with Hz
  · isplitr; · iexact HI
    iexact Ha
  iapply Hk
  isplitl [HO]; · iexists _; iexact HO
  isplitl [Hz]; · iexact Hz
  iexact Hp

/-- Sending message `j`. -/
theorem post (i : Fin 4) (j : Fin 8) (hi : i = qtr j) (l : List (Fin 8)) (n : Dev nD) (hn : n = peer j c)
    {hsc : (rQ j : Memref sig (Dev.tc n : Thread nD τ).2.kind .vmem S256x512 .bf16).view.ref.isScScratch = false}
    {hsrc : (sQ i).view.WordExact} {hdst : (rQ j : Memref sig (Dev.tc n : Thread nD τ).2.kind .vmem S256x512 .bf16).view.WordExact}
    {hsem : DmaTarget.Typed .vmem (.dma (inS j)) (.remote (Dev.tc n : Thread nD τ) (rQ j : Memref sig .tc .vmem S256x512 .bf16) (.dma (outS j)) hsc)}
    {k : PUnit → Prog (TpuEff nD τ sig (Elt F) Λ₀ .tc) α} :
    iprop(records m ρ K ∗ owing c (due c (j :: l)) ∗ dutyTok EX (outC c j) 0 false ∗ dutyTok EX (inC (peer j c) j) 0 false
        ∗ owns (c : Thread nD τ) (sQ i) fullShare (msg m ρ j c) ∗ (∃ X, owns (peer j c : Thread nD τ) (rQ j) fullShare X))
      ⊢ iprop((owing c (due c l) ∗ cred (tallyAt (outC c j) () N) -∗ WP c (k ⟨⟩) Q)
          -∗ WP c (.op (.enqueueDma (sQ i) (.remote (Dev.tc n : Thread nD τ) (rQ j) (.dma (outS j)) hsc) (.dma (inS j)) hsrc hdst hsem) k) Q) := by
  subst hn hi
  unfold owing owns
  iintro ⟨#HR, ⟨%W, HO⟩, Ht, Ht', ⟨%f, %hf, Hs⟩, ⟨%X, %fd, -, Hd⟩⟩ Hk
  ihave #HI := (records_at m ρ K c (some (false, j))) $$ HR
  icases HI with ⟨#HI, #Hr⟩
  ihave #HI' := (records_at m ρ K (peer j c) (some (true, j))) $$ HR
  icases HI' with ⟨#HI', #Hr'⟩
  iapply (Rounds.wp_send_pointsTo 𝒱₀ EX (sched m ρ) (c : Thread nD τ) none (κ₁ := K (c, some (false, j))) (κ₂ := K (peer j c, some (true, j)))
    (r₁ := 0) (r₂ := 0) (d₁ := false) (d₂ := false) (fs := f) (fd := fd)
    (by rw [duties_eq m ρ c (some (false, j))]; exact Finset.mem_singleton_self _)
    (by rw [duties_eq m ρ (peer j c) (some (true, j))]; exact Finset.mem_singleton_self _)
    () () N (by exact credit_rQ j) (amount_eq m ρ c (some (false, j)) false) (amount_eq m ρ (peer j c) (some (true, j)) false) (due c l) rfl (W := W)
    (by
      rw [payload_eq m ρ c (some (false, j))]
      show _ ⊢ owns (c : Thread nD τ) (sQ (qtr j)) fullShare (msg m ρ j c)
      rw [← hf]
      exact owns_intro (c : Thread nD τ) (sQ (qtr j)) fullShare f)
    (by
      rw [payload_eq m ρ (peer j c) (some (true, j))]
      show _ ⊢ owns (peer j c : Thread nD τ) (rQ j) fullShare (msg m ρ j (peer j (peer j c)))
      rw [peer_peer, ← hf]
      unfold owns
      iintro H
      iexists _
      isplitr [H]
      rotate_left
      · iexact H
      · ipureintro; exact View.read_write_univ (v := (rQ j).view) fd _)) $$ [HO Ht Ht' Hs Hd]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

/-- Quarter `i` of the staged block is copied into the outgoing buffer. -/
theorem fill (i : Fin 4) {X : Vec F S256x512 .bf16} {pay : Vec F S256x512 .bf16 → FVec F S256x512 .bf16} (hp : ∀ v, pay v = v)
    {h₁ : xM.view.LoadsAt (rows i).toLoadRect} {h₂ : sM.view.LoadsAt (rows i).toLoadRect}
    {h₃ : (sM.access (rows i)).Stores Finset.univ} {h₄ : (Finset.univ : Finset (rows i).shape.Idx) = Finset.univ ∨ ∀ a, (rows i).stride a = 1}
    {k : PUnit → Prog (TpuEff nD τ sig (Elt F) Λ₀ .tc) α} :
    iprop(xHeld m ρ c ∗ owns (c : Thread nD τ) (sQ i) fullShare X)
      ⊢ iprop((xHeld m ρ c ∗ owns (c : Thread nD τ) (sQ i) fullShare (cut i (own₀ m ρ c)) -∗ WP c (k ⟨⟩) Q)
          -∗ WP c (.op (.load xM (rows i).toLoadRect h₁) fun v => .op (.load sM (rows i).toLoadRect h₂) fun _ =>
              .op (.store sM (rows i) (pay v) Finset.univ h₃ h₄) k) Q) := by
  unfold xHeld
  iintro ⟨Hx, Hs⟩ Hk
  iapply (wp_load_rect 𝒱₀ (c : Thread nD τ) none Set.univ (m := xM) (r := rows i) (S := Finset.univ) (f := own₀ m ρ c) (Finset.subset_univ _)) $$ Hx
  iintro Hx
  iapply (load_slice 𝒱₀ (c : Thread nD τ) Set.univ) $$ Hs
  iintro Hs
  iapply (store_slice 𝒱₀ (c : Thread nD τ) Set.univ) $$ Hs
  iintro Hs
  iapply Hk
  isplitl [Hx]; · iexact Hx
  rw [hp]
  iexact Hs

/-- What came is added to quarter `i` of the outgoing buffer. -/
theorem merge (i : Fin 4) (j : Fin 8) {X Y : Vec F S256x512 .bf16} {pay : Vec F S256x512 .bf16 → Vec F S1x256x512 .bf16 → FVec F S256x512 .bf16}
    (hp : ∀ v w, pay v w = addf v (shapeCast S256x512 w shapeCasts_S1x256x512_S256x512))
    {h₁ h₂ : sM.view.LoadsAt (rows i).toLoadRect} {h₃ : rM.view.LoadsAt (slot j).toLoadRect}
    {h₄ : (sM.access (rows i)).Stores Finset.univ} {h₅ : (Finset.univ : Finset (rows i).shape.Idx) = Finset.univ ∨ ∀ a, (rows i).stride a = 1}
    {k : PUnit → Prog (TpuEff nD τ sig (Elt F) Λ₀ .tc) α} :
    iprop(owns (c : Thread nD τ) (sQ i) fullShare X ∗ owns (c : Thread nD τ) (rQ j) fullShare Y)
      ⊢ iprop((owns (c : Thread nD τ) (sQ i) fullShare (addf X Y) ∗ owns (c : Thread nD τ) (rQ j) fullShare Y -∗ WP c (k ⟨⟩) Q)
          -∗ WP c (.op (.load sM (rows i).toLoadRect h₁) fun v => .op (.load rM (slot j).toLoadRect h₃) fun w =>
              .op (.load sM (rows i).toLoadRect h₂) fun _ => .op (.store sM (rows i) (pay v w) Finset.univ h₄ h₅) k) Q) := by
  iintro ⟨Hs, Hr⟩ Hk
  iapply (load_slice 𝒱₀ (c : Thread nD τ) Set.univ) $$ Hs
  iintro Hs
  iapply (load_squeezed 𝒱₀ (c : Thread nD τ) Set.univ (hc := shapeCasts_S1x256x512_S256x512)) $$ Hr
  iintro %w %hw Hr
  iapply (load_slice 𝒱₀ (c : Thread nD τ) Set.univ) $$ Hs
  iintro Hs
  iapply (store_slice 𝒱₀ (c : Thread nD τ) Set.univ) $$ Hs
  iintro Hs
  iapply Hk
  rw [hp, hw]
  isplitl [Hs]; · iexact Hs
  iexact Hr

/-- What came is added to quarter `i`, widened and written to the result. -/
theorem finish (i : Fin 4) (j : Fin 8) {X Y : Vec F S256x512 .bf16} {Z : Vec F S256x512 .f32} {pay : Vec F S256x512 .bf16 → Vec F S1x256x512 .bf16 → FVec F S256x512 .f32}
    (hp : ∀ v w, pay v w = extf .f32 (addf v (shapeCast S256x512 w shapeCasts_S1x256x512_S256x512)) bitsLt_bf16_f32)
    {h₁ : sM.view.LoadsAt (rows i).toLoadRect} {h₂ : oM.view.LoadsAt (rows i).toLoadRect} {h₃ : rM.view.LoadsAt (slot j).toLoadRect}
    {h₄ : (oM.access (rows i)).Stores Finset.univ} {h₅ : (Finset.univ : Finset (rows i).shape.Idx) = Finset.univ ∨ ∀ a, (rows i).stride a = 1}
    {k : PUnit → Prog (TpuEff nD τ sig (Elt F) Λ₀ .tc) α} :
    iprop(owns (c : Thread nD τ) (sQ i) fullShare X ∗ owns (c : Thread nD τ) (rQ j) fullShare Y ∗ owns (c : Thread nD τ) (oQ i) fullShare Z)
      ⊢ iprop((owns (c : Thread nD τ) (sQ i) fullShare X ∗ owns (c : Thread nD τ) (rQ j) fullShare Y
              ∗ owns (c : Thread nD τ) (oQ i) fullShare (extf .f32 (addf X Y) bitsLt_bf16_f32) -∗ WP c (k ⟨⟩) Q)
          -∗ WP c (.op (.load sM (rows i).toLoadRect h₁) fun v => .op (.load rM (slot j).toLoadRect h₃) fun w =>
              .op (.load oM (rows i).toLoadRect h₂) fun _ => .op (.store oM (rows i) (pay v w) Finset.univ h₄ h₅) k) Q) := by
  iintro ⟨Hs, Hr, Ho⟩ Hk
  iapply (load_slice 𝒱₀ (c : Thread nD τ) Set.univ) $$ Hs
  iintro Hs
  iapply (load_squeezed 𝒱₀ (c : Thread nD τ) Set.univ (hc := shapeCasts_S1x256x512_S256x512)) $$ Hr
  iintro %w %hw Hr
  iapply (load_slice 𝒱₀ (c : Thread nD τ) Set.univ) $$ Ho
  iintro Ho
  iapply (store_slice 𝒱₀ (c : Thread nD τ) Set.univ) $$ Ho
  iintro Ho
  iapply Hk
  rw [hp, hw]
  isplitl [Hs]; · iexact Hs
  isplitl [Hr]; · iexact Hr
  iexact Ho

end Steps

end Cert.KernelIdeal.Exchange

end
-- ==== Proof.KernelIdeal.Phases.lean ====
/- The three phases every quarter goes through, each as one rule over the steps it consists of: it is copied and sent
   to the first neighbour; what the first neighbour sent is added and the sum sent to the second; what the second sent
   is added and the sum written out. -/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slices

variable {F : FTy → Type} [FloatOps F]

local notation "𝕄" => MT nD τ sig Unit (Elt F) ℕ UU ℕ

variable (m : (ℓ : Loc nD τ sig) → Buf (Elt F) ℓ) (ρ : Dev nD → PrngReg)

/-! ## What a message needs, and what is left of it -/

/-- Before message `j` is sent: the positions at its two semaphores, the right to raise them, and the credit to wait for
    its counterpart. -/
def kit (c : Dev nD) (j : Fin 8) : sProp 𝕄 :=
  iprop(dutyTok EX (outC c j) 0 false ∗ dutyTok EX (inC (peer j c) j) 0 false
    ∗ atPos EX (outC c j) 0 ∅ 0 ∗ atPos EX (inC c j) 0 ∅ 0 ∗ cred (tallyAt (inC c j) () N))
/-- While it is on its way. -/
def flying (c : Dev nD) (j : Fin 8) : sProp 𝕄 :=
  iprop(cred (tallyAt (outC c j) () N) ∗ atPos EX (outC c j) 0 ∅ 0 ∗ atPos EX (inC c j) 0 ∅ 0 ∗ cred (tallyAt (inC c j) () N))
/-- After both it and its counterpart have arrived: the semaphores at zero and the counterpart in its place. -/
def settled (c : Dev nD) (j : Fin 8) : sProp 𝕄 :=
  iprop(semVal (outC c j) 0 ∗ semVal (inC c j) 0 ∗ owns (c : Thread nD τ) (rQ j) fullShare (msg m ρ j (peer j c)))
/-- The place where message `j` of device `c` lands. -/
abbrev place (c : Dev nD) (j : Fin 8) : sProp 𝕄 := iprop(∃ X, owns (peer j c : Thread nD τ) (rQ j) fullShare X)

/-! ## Contents -/

theorem side_first (j : Fin 8) (h : j.val < 4) : side j = side₁ (qtr j) := by revert j; decide
theorem side_second (j : Fin 8) (h : ¬ j.val < 4) : side j = !side₁ (qtr j) := by revert j; decide

theorem msg_first (j : Fin 8) (c : Dev nD) (h : j.val < 4) : msg m ρ j c = cut (qtr j) (own₀ m ρ c) := if_pos h
theorem msg_second (j : Fin 8) (c : Dev nD) (h : ¬ j.val < 4) : msg m ρ j c = cut (qtr j) (own₁ m ρ (qtr j) c) := if_neg h

/-- The sum of a message of the first crossing and its counterpart is that of the second. -/
theorem msg_sum (j j' : Fin 8) (c : Dev nD) (h : j.val < 4) (h' : ¬ j'.val < 4) (hq : qtr j' = qtr j) :
    addf (msg m ρ j c) (msg m ρ j (peer j c)) = msg m ρ j' c := by
  rw [msg_first m ρ j c h, msg_first m ρ j _ h, msg_second m ρ j' c h', hq, peer, side_first j h]; rfl
/-- And the sum of the latter and its counterpart, widened, is the result. -/
theorem out_sum (j : Fin 8) (c : Dev nD) (h : ¬ j.val < 4) :
    extf .f32 (addf (msg m ρ j c) (msg m ρ j (peer j c))) bitsLt_bf16_f32 = cut (qtr j) (own₂ m ρ (qtr j) c) := by
  rw [msg_second m ρ j c h, msg_second m ρ j _ h, peer, side_second j h]; rfl

section Phases

variable (K : Dev nD × Role → ℕ) (c : Dev nD) {α : Type} {Q : α → sProp (MT nD τ sig Unit (Elt F) ℕ UU ℕ)}

/-- The first phase. -/
theorem phase₁ (i : Fin 4) (j : Fin 8) (hi : i = qtr j) (hj : j.val < 4) (l : List (Fin 8)) (n : Dev nD) (hn : n = peer j c)
    {pay : Vec F S256x512 .bf16 → FVec F S256x512 .bf16} (hp : ∀ v, pay v = v)
    {h₁ : xM.view.LoadsAt (rows i).toLoadRect} {h₂ : sM.view.LoadsAt (rows i).toLoadRect}
    {h₃ : (sM.access (rows i)).Stores Finset.univ} {h₄ : (Finset.univ : Finset (rows i).shape.Idx) = Finset.univ ∨ ∀ a, (rows i).stride a = 1}
    {hsc : (rQ j : Memref sig (Dev.tc n : Thread nD τ).2.kind .vmem S256x512 .bf16).view.ref.isScScratch = false}
    {hsrc : (sQ i).view.WordExact} {hdst : (rQ j : Memref sig (Dev.tc n : Thread nD τ).2.kind .vmem S256x512 .bf16).view.WordExact}
    {hsem : DmaTarget.Typed .vmem (.dma (inS j)) (.remote (Dev.tc n : Thread nD τ) (rQ j : Memref sig .tc .vmem S256x512 .bf16) (.dma (outS j)) hsc)}
    {k : PUnit → Prog (TpuEff nD τ sig (Elt F) Λ₀ .tc) α} :
    iprop(records m ρ K ∗ owing c (due c (j :: l)) ∗ kit c j ∗ place c j ∗ xHeld m ρ c ∗ (∃ X, owns (c : Thread nD τ) (sQ i) fullShare X))
      ⊢ iprop((owing c (due c l) ∗ flying c j ∗ xHeld m ρ c -∗ WP c (k ⟨⟩) Q)
          -∗ WP c (.op (.load xM (rows i).toLoadRect h₁) fun v => .op (.load sM (rows i).toLoadRect h₂) fun _ =>
              .op (.store sM (rows i) (pay v) Finset.univ h₃ h₄) fun _ =>
              .op (.enqueueDma (sQ i) (.remote (Dev.tc n : Thread nD τ) (rQ j) (.dma (outS j)) hsc) (.dma (inS j)) hsrc hdst hsem) k) Q) := by
  unfold kit flying
  iintro ⟨#HR, HO, ⟨Ht, Ht', Ha, Ha', Hc'⟩, Hd, Hx, ⟨%X, Hs⟩⟩ Hk
  iapply (fill m ρ c i hp) $$ [Hx Hs]
  · isplitl [Hx]; · iexact Hx
    iexact Hs
  iintro ⟨Hx, Hs⟩
  iapply (post m ρ K c i j hi l n hn) $$ [HO Ht Ht' Hs Hd]
  · isplitr; · iexact HR
    isplitl [HO]; · iexact HO
    isplitl [Ht]; · iexact Ht
    isplitl [Ht']; · iexact Ht'
    isplitl [Hs]
    · rw [msg_first m ρ j c hj, hi]; iexact Hs
    iexact Hd
  iintro ⟨HO, Hc⟩
  iapply Hk
  isplitl [HO]; · iexact HO
  isplitr [Hx]; rotate_left; · iexact Hx
  isplitl [Hc]; · iexact Hc
  isplitl [Ha]; · iexact Ha
  isplitl [Ha']; · iexact Ha'
  iexact Hc'

/-- The waits for message `j` and its counterpart. -/
theorem settle (i : Fin 4) (j : Fin 8) (hi : i = qtr j) (l : List (Fin 8)) (h : ∀ i ∈ l, roleLv (some (true, j)) < roleLv (some (true, i)))
    {h₁ h₁' : (rQ j).view.WordExact} {h₂ h₂' : (sQ i).view.WordExact}
    {k : PUnit → Prog (TpuEff nD τ sig (Elt F) Λ₀ .tc) α} :
    iprop(records m ρ K ∗ levAts L lv ∗ owing c (due c l) ∗ flying c j)
      ⊢ iprop((owing c (due c l) ∗ settled m ρ c j ∗ owns (c : Thread nD τ) (sQ i) fullShare (msg m ρ j c) -∗ WP c (k ⟨⟩) Q)
          -∗ WP c (.op (.waitDma2 (outS j) (rQ j) (sQ i) h₁ h₂) fun _ => .op (.waitDma2 (inS j) (sQ i) (rQ j) h₂' h₁') k) Q) := by
  unfold flying settled
  iintro ⟨#HR, #Hlev, HO, Hc, Ha, Ha', Hc'⟩ Hk
  iapply (await m ρ K c false j (outS j) rfl l (fun i hi => by show 0 < (if i.val < 4 then 2 else 3); split <;> decide) (credit_sQ i)) $$ [Hc HO Ha]
  · isplitr; · iexact HR
    isplitr; · iexact Hlev
    isplitl [Hc]; · iexact Hc
    isplitl [HO]; · iexact HO
    iexact Ha
  iintro ⟨HO, Hz, Hs⟩
  iapply (await m ρ K c true j (inS j) rfl l h (credit_rQ j)) $$ [Hc' HO Ha']
  · isplitr; · iexact HR
    isplitr; · iexact Hlev
    isplitl [Hc']; · iexact Hc'
    isplitl [HO]; · iexact HO
    iexact Ha'
  iintro ⟨HO, Hz', Hr⟩
  iapply Hk
  unfold payOf outPay inPay
  rw [hi]
  isplitl [HO]; · iexact HO
  isplitr [Hs]; rotate_left; · iexact Hs
  isplitl [Hz]; · iexact Hz
  isplitl [Hz']; · iexact Hz'
  iexact Hr

/-- The second phase. -/
theorem phase₂ (i : Fin 4) (j j' : Fin 8) (hi : i = qtr j) (hi' : i = qtr j') (hj : j.val < 4) (hj' : ¬ j'.val < 4) (l : List (Fin 8))
    (h : ∀ i ∈ j' :: l, roleLv (some (true, j)) < roleLv (some (true, i))) (n : Dev nD) (hn : n = peer j' c)
    {pay : Vec F S256x512 .bf16 → Vec F S1x256x512 .bf16 → FVec F S256x512 .bf16}
    (hp : ∀ v w, pay v w = addf v (shapeCast S256x512 w shapeCasts_S1x256x512_S256x512))
    {w₁ w₁' : (rQ j).view.WordExact} {w₂ w₂' : (sQ i).view.WordExact}
    {h₁ h₂ : sM.view.LoadsAt (rows i).toLoadRect} {h₃ : rM.view.LoadsAt (slot j).toLoadRect}
    {h₄ : (sM.access (rows i)).Stores Finset.univ} {h₅ : (Finset.univ : Finset (rows i).shape.Idx) = Finset.univ ∨ ∀ a, (rows i).stride a = 1}
    {hsc : (rQ j' : Memref sig (Dev.tc n : Thread nD τ).2.kind .vmem S256x512 .bf16).view.ref.isScScratch = false}
    {hsrc : (sQ i).view.WordExact} {hdst : (rQ j' : Memref sig (Dev.tc n : Thread nD τ).2.kind .vmem S256x512 .bf16).view.WordExact}
    {hsem : DmaTarget.Typed .vmem (.dma (inS j')) (.remote (Dev.tc n : Thread nD τ) (rQ j' : Memref sig .tc .vmem S256x512 .bf16) (.dma (outS j')) hsc)}
    {k : PUnit → Prog (TpuEff nD τ sig (Elt F) Λ₀ .tc) α} :
    iprop(records m ρ K ∗ levAts L lv ∗ owing c (due c (j' :: l)) ∗ flying c j ∗ kit c j' ∗ place c j')
      ⊢ iprop((owing c (due c l) ∗ settled m ρ c j ∗ flying c j' -∗ WP c (k ⟨⟩) Q)
          -∗ WP c (.op (.waitDma2 (outS j) (rQ j) (sQ i) w₁ w₂) fun _ => .op (.waitDma2 (inS j) (sQ i) (rQ j) w₂' w₁') fun _ =>
              .op (.load sM (rows i).toLoadRect h₁) fun v => .op (.load rM (slot j).toLoadRect h₃) fun w =>
              .op (.load sM (rows i).toLoadRect h₂) fun _ => .op (.store sM (rows i) (pay v w) Finset.univ h₄ h₅) fun _ =>
              .op (.enqueueDma (sQ i) (.remote (Dev.tc n : Thread nD τ) (rQ j') (.dma (outS j')) hsc) (.dma (inS j')) hsrc hdst hsem) k) Q) := by
  iintro ⟨#HR, #Hlev, HO, Hf, Hkit, Hd⟩ Hk
  iapply (settle m ρ K c i j hi (j' :: l) h) $$ [HO Hf]
  · isplitr; · iexact HR
    isplitr; · iexact Hlev
    isplitl [HO]; · iexact HO
    iexact Hf
  unfold settled kit flying
  iintro ⟨HO, ⟨Hz, Hz', Hr⟩, Hs⟩
  icases Hkit with ⟨Ht, Ht', Ha, Ha', Hc'⟩
  iapply (merge c i j hp) $$ [Hs Hr]
  · isplitl [Hs]; · iexact Hs
    iexact Hr
  iintro ⟨Hs, Hr⟩
  rw [msg_sum m ρ j j' c hj hj' (hi'.symm.trans hi)]
  iapply (post m ρ K c i j' hi' l n hn) $$ [HO Ht Ht' Hs Hd]
  · isplitr; · iexact HR
    isplitl [HO]; · iexact HO
    isplitl [Ht]; · iexact Ht
    isplitl [Ht']; · iexact Ht'
    isplitl [Hs]; · iexact Hs
    iexact Hd
  iintro ⟨HO, Hc⟩
  iapply Hk
  isplitl [HO]; · iexact HO
  isplitl [Hz Hz' Hr]
  · isplitl [Hz]; · iexact Hz
    isplitl [Hz']; · iexact Hz'
    iexact Hr
  isplitl [Hc]; · iexact Hc
  isplitl [Ha]; · iexact Ha
  isplitl [Ha']; · iexact Ha'
  iexact Hc'

/-- The third phase. -/
theorem phase₃ (i : Fin 4) (j : Fin 8) (hi : i = qtr j) (hj : ¬ j.val < 4)
    {pay : Vec F S256x512 .bf16 → Vec F S1x256x512 .bf16 → FVec F S256x512 .f32}
    (hp : ∀ v w, pay v w = extf .f32 (addf v (shapeCast S256x512 w shapeCasts_S1x256x512_S256x512)) bitsLt_bf16_f32)
    {w₁ w₁' : (rQ j).view.WordExact} {w₂ w₂' : (sQ i).view.WordExact}
    {h₁ : sM.view.LoadsAt (rows i).toLoadRect} {h₂ : oM.view.LoadsAt (rows i).toLoadRect} {h₃ : rM.view.LoadsAt (slot j).toLoadRect}
    {h₄ : (oM.access (rows i)).Stores Finset.univ} {h₅ : (Finset.univ : Finset (rows i).shape.Idx) = Finset.univ ∨ ∀ a, (rows i).stride a = 1}
    {k : PUnit → Prog (TpuEff nD τ sig (Elt F) Λ₀ .tc) α} :
    iprop(records m ρ K ∗ levAts L lv ∗ owing c 0 ∗ flying c j ∗ (∃ Z, owns (c : Thread nD τ) (oQ i) fullShare Z))
      ⊢ iprop((owing c 0 ∗ settled m ρ c j ∗ (∃ X, owns (c : Thread nD τ) (sQ i) fullShare X)
              ∗ owns (c : Thread nD τ) (oQ i) fullShare (cut i (own₂ m ρ i c)) -∗ WP c (k ⟨⟩) Q)
          -∗ WP c (.op (.waitDma2 (outS j) (rQ j) (sQ i) w₁ w₂) fun _ => .op (.waitDma2 (inS j) (sQ i) (rQ j) w₂' w₁') fun _ =>
              .op (.load sM (rows i).toLoadRect h₁) fun v => .op (.load rM (slot j).toLoadRect h₃) fun w =>
              .op (.load oM (rows i).toLoadRect h₂) fun _ => .op (.store oM (rows i) (pay v w) Finset.univ h₄ h₅) k) Q) := by
  iintro ⟨#HR, #Hlev, HO, Hf, ⟨%Z, Ho⟩⟩ Hk
  iapply (settle m ρ K c i j hi [] (fun _ h => absurd h List.not_mem_nil)) $$ [HO Hf]
  · isplitr; · iexact HR
    isplitr; · iexact Hlev
    isplitl [HO]; · iexact HO
    iexact Hf
  unfold settled
  iintro ⟨HO, ⟨Hz, Hz', Hr⟩, Hs⟩
  iapply (finish c i j hp) $$ [Hs Hr Ho]
  · isplitl [Hs]; · iexact Hs
    isplitl [Hr]; · iexact Hr
    iexact Ho
  iintro ⟨Hs, Hr, Ho⟩
  rw [out_sum m ρ j c hj, ← hi]
  iapply Hk
  isplitl [HO]; · iexact HO
  isplitl [Hz Hz' Hr]
  · isplitl [Hz]; · iexact Hz
    isplitl [Hz']; · iexact Hz'
    iexact Hr
  isplitl [Hs]; · iexists _; iexact Hs
  iexact Ho

end Phases

end Cert.KernelIdeal.Exchange

end
-- ==== Proof.KernelIdeal.Body.lean ====
/- The body of the exchange: the handshake, then every quarter through its three phases. -/
module

public import proofs.«01_k».proof.Proof.KernelIdeal.Phases
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slices

variable {F : FTy → Type} [FloatOps F]

local notation "𝕄" => MT nD τ sig Unit (Elt F) ℕ UU ℕ

variable (m : (ℓ : Loc nD τ sig) → Buf (Elt F) ℓ) (ρ : Dev nD → PrngReg)

theorem over_quarters (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem over_messages (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- The messages by the side they cross. -/
theorem by_side (Φ : Fin 8 → sProp 𝕄) :
    bigSep Finset.univ Φ = iprop((bigSep (Finset.univ.filter fun j => side j = true) Φ) ∗ bigSep (Finset.univ.filter fun j => side j = false) Φ) := by
  rw [bigSep_filter_split (Finset.univ : Finset (Fin 8)) (fun j => side j = true)]
  simp only [Bool.not_eq_true]
  rfl

/-- What device `c` starts the body with, the buffers in their quarters. -/
def bodyIn (K : Dev nD × Role → ℕ) (c : Dev nD) : sProp 𝕄 :=
  iprop(records m ρ K ∗ levAts L lv ∗ owing c (O₀ c) ∗ atPos EX (barC c) 0 ∅ 0 ∗ cred (tallyAt (barC c) () 2)
    ∗ dutyTok EX (barC (nb false c)) 0 false ∗ dutyTok EX (barC (nb true c)) 0 true ∗ (bigSep Finset.univ fun j => kit c j)
    ∗ xHeld m ρ c ∗ (bigSep Finset.univ fun i => iprop(∃ X, owns (c : Thread nD τ) (sQ i) fullShare X))
    ∗ (bigSep Finset.univ fun i => iprop(∃ Z, owns (c : Thread nD τ) (oQ i) fullShare Z))
    ∗ (bigSep Finset.univ fun j => iprop(∃ X, owns (c : Thread nD τ) (rQ j) fullShare X)))
/-- And what it ends with: every quarter of the result written, every semaphore done with. -/
def bodyOut (c : Dev nD) : sProp 𝕄 :=
  iprop(owing c 0 ∗ semVal (barC c) 0 ∗ (bigSep Finset.univ fun j => settled m ρ c j)
    ∗ xHeld m ρ c ∗ (bigSep Finset.univ fun i => iprop(∃ X, owns (c : Thread nD τ) (sQ i) fullShare X))
    ∗ (bigSep Finset.univ fun i => owns (c : Thread nD τ) (oQ i) fullShare (cut i (own₂ m ρ i c))))

/-- Casting to a shape an array already has changes nothing. -/
theorem cast_cast (v : Vec F S256x512 .bf16) :
    shapeCast S256x512 (shapeCast S256x512 v shapeCasts_S256x512_S256x512) shapeCasts_S256x512_S256x512 = v := by
  rw [shapeCast_self, shapeCast_self]
theorem cast_sum (v : Vec F S256x512 .bf16) (w : Vec F S1x256x512 .bf16) :
    shapeCast S256x512 (addf v (shapeCast S256x512 w shapeCasts_S1x256x512_S256x512)) shapeCasts_S256x512_S256x512
      = addf v (shapeCast S256x512 w shapeCasts_S1x256x512_S256x512) := shapeCast_self _ _

set_option maxHeartbeats 4000000 in
set_option maxRecDepth 20000 in
theorem sound_body (K : Dev nD × Role → ℕ) (c : Dev nD) (P : PUnit → sProp 𝕄) :
    iprop(bodyIn m ρ K c ∗ (bodyOut m ρ c -∗ P ⟨⟩))
      ⊢ WP c (cc0_body xM (Memref.isWhole_whole _) oM (Memref.isWhole_whole _) sM (Memref.isWhole_whole _) rM (Memref.isWhole_whole _) cc0_scratch2 cc0_scratch3) P := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold bodyIn bodyOut
  rw [by_side fun j => iprop(∃ X, owns (c : Thread nD τ) (rQ j) fullShare X), over_messages (fun j => kit c j), over_quarters, over_quarters]
  iintro ⟨⟨#HR, #Hlev, HO, Hab, Hcb, Htf, Htt, ⟨Hk0, Hk1, Hk2, Hk3, Hk4, Hk5, Hk6, Hk7⟩, Hx, ⟨Hs0, Hs1, Hs2, Hs3⟩, ⟨Ho0, Ho1, Ho2, Ho3⟩, ⟨Hrt, Hrf⟩⟩, Hk⟩
  -- the handshake
  iapply (greet m ρ K c false _ (Fin.ext (k0_dev1_eq c)) (O₁ c)) $$ [HO Htf Hrf]
  · isplitr; · iexact HR
    isplitl [HO]; · iexact HO
    isplitl [Htf] <;> iassumption
  iintro HO
  iapply (greet m ρ K c true _ (Fin.ext (k0_dev2_eq c)) (due c order)) $$ [HO Htt Hrt]
  · isplitr; · iexact HR
    isplitl [HO]; · iexact HO
    isplitl [Htt] <;> iassumption
  iintro HO
  iapply (meet m ρ K c) $$ [Hcb HO Hab]
  · isplitr; · iexact HR
    isplitr; · iexact Hlev
    isplitl [Hcb]; · iexact Hcb
    isplitl [HO] <;> iassumption
  iintro ⟨HO, Hzb, Hp⟩
  ihave Hp := (Entails.of_eq (over_messages fun j : Fin 8 => iprop(∃ X, owns (peer j c : Thread nD τ) (rQ j) fullShare X))) $$ Hp
  icases Hp with ⟨Hp0, Hp1, Hp2, Hp3, Hp4, Hp5, Hp6, Hp7⟩
  -- every quarter is sent to its first neighbour
  iapply (phase₁ m ρ K c 0 0 rfl (by decide) [2, 1, 3, 4, 6, 5, 7] _ (Fin.ext (k0_dev3_eq c)) (pay := k0_pay2) cast_cast) $$ [HO Hk0 Hp0 Hx Hs0]
  · isplitr; · iexact HR
    isplitl [HO]; · iexact HO
    isplitl [Hk0]; · iexact Hk0
    isplitl [Hp0]; · iexact Hp0
    isplitl [Hx] <;> iassumption
  iintro ⟨HO, Hf0, Hx⟩
  iapply (phase₁ m ρ K c 2 2 rfl (by decide) [1, 3, 4, 6, 5, 7] _ (Fin.ext (k0_dev4_eq c)) (pay := k0_pay3) cast_cast) $$ [HO Hk2 Hp2 Hx Hs2]
  · isplitr; · iexact HR
    isplitl [HO]; · iexact HO
    isplitl [Hk2]; · iexact Hk2
    isplitl [Hp2]; · iexact Hp2
    isplitl [Hx] <;> iassumption
  iintro ⟨HO, Hf2, Hx⟩
  iapply (phase₁ m ρ K c 1 1 rfl (by decide) [3, 4, 6, 5, 7] _ (Fin.ext (k0_dev5_eq c)) (pay := k0_pay4) cast_cast) $$ [HO Hk1 Hp1 Hx Hs1]
  · isplitr; · iexact HR
    isplitl [HO]; · iexact HO
    isplitl [Hk1]; · iexact Hk1
    isplitl [Hp1]; · iexact Hp1
    isplitl [Hx] <;> iassumption
  iintro ⟨HO, Hf1, Hx⟩
  iapply (phase₁ m ρ K c 3 3 rfl (by decide) [4, 6, 5, 7] _ (Fin.ext (k0_dev6_eq c)) (pay := k0_pay5) cast_cast) $$ [HO Hk3 Hp3 Hx Hs3]
  · isplitr; · iexact HR
    isplitl [HO]; · iexact HO
    isplitl [Hk3]; · iexact Hk3
    isplitl [Hp3]; · iexact Hp3
    isplitl [Hx] <;> iassumption
  iintro ⟨HO, Hf3, Hx⟩
  -- what came is added and the sum sent to the second
  iapply (phase₂ m ρ K c 0 0 4 rfl rfl (by decide) (by decide) [6, 5, 7] (by decide) _ (Fin.ext (k0_dev7_eq c)) (pay := k0_pay6) cast_sum) $$ [HO Hf0 Hk4 Hp4]
  · isplitr; · iexact HR
    isplitr; · iexact Hlev
    isplitl [HO]; · iexact HO
    isplitl [Hf0]; · iexact Hf0
    isplitl [Hk4] <;> iassumption
  iintro ⟨HO, Hz0, Hf4⟩
  iapply (phase₂ m ρ K c 2 2 6 rfl rfl (by decide) (by decide) [5, 7] (by decide) _ (Fin.ext (k0_dev8_eq c)) (pay := k0_pay7) cast_sum) $$ [HO Hf2 Hk6 Hp6]
  · isplitr; · iexact HR
    isplitr; · iexact Hlev
    isplitl [HO]; · iexact HO
    isplitl [Hf2]; · iexact Hf2
    isplitl [Hk6] <;> iassumption
  iintro ⟨HO, Hz2, Hf6⟩
  iapply (phase₂ m ρ K c 1 1 5 rfl rfl (by decide) (by decide) [7] (by decide) _ (Fin.ext (k0_dev9_eq c)) (pay := k0_pay8) cast_sum) $$ [HO Hf1 Hk5 Hp5]
  · isplitr; · iexact HR
    isplitr; · iexact Hlev
    isplitl [HO]; · iexact HO
    isplitl [Hf1]; · iexact Hf1
    isplitl [Hk5] <;> iassumption
  iintro ⟨HO, Hz1, Hf5⟩
  iapply (phase₂ m ρ K c 3 3 7 rfl rfl (by decide) (by decide) [] (by decide) _ (Fin.ext (k0_dev10_eq c)) (pay := fun v w => k0_pay10 v (k0_pay9 w)) cast_sum) $$ [HO Hf3 Hk7 Hp7]
  · isplitr; · iexact HR
    isplitr; · iexact Hlev
    isplitl [HO]; · iexact HO
    isplitl [Hf3]; · iexact Hf3
    isplitl [Hk7] <;> iassumption
  iintro ⟨HO, Hz3, Hf7⟩
  -- what came is added and the sum written out
  iapply (phase₃ m ρ K c 0 4 rfl (by decide) (pay := k0_pay11) (fun _ _ => rfl)) $$ [HO Hf4 Ho0]
  · isplitr; · iexact HR
    isplitr; · iexact Hlev
    isplitl [HO]; · iexact HO
    isplitl [Hf4] <;> iassumption
  iintro ⟨HO, Hz4, Hs0, Ho0⟩
  iapply (phase₃ m ρ K c 2 6 rfl (by decide) (pay := fun v w => k0_pay13 (k0_pay12 v w)) (fun _ _ => rfl)) $$ [HO Hf6 Ho2]
  · isplitr; · iexact HR
    isplitr; · iexact Hlev
    isplitl [HO]; · iexact HO
    isplitl [Hf6] <;> iassumption
  iintro ⟨HO, Hz6, Hs2, Ho2⟩
  iapply (phase₃ m ρ K c 1 5 rfl (by decide) (pay := k0_pay14) (fun _ _ => rfl)) $$ [HO Hf5 Ho1]
  · isplitr; · iexact HR
    isplitr; · iexact Hlev
    isplitl [HO]; · iexact HO
    isplitl [Hf5] <;> iassumption
  iintro ⟨HO, Hz5, Hs1, Ho1⟩
  iapply (phase₃ m ρ K c 3 7 rfl (by decide) (pay := k0_pay1) (fun _ _ => rfl)) $$ [HO Hf7 Ho3]
  · isplitr; · iexact HR
    isplitr; · iexact Hlev
    isplitl [HO]; · iexact HO
    isplitl [Hf7] <;> iassumption
  iintro ⟨HO, Hz7, Hs3, Ho3⟩
  unfold WP; rw [wp_ret]; imodintro
  iapply Hk
  rw [over_messages (fun j => settled m ρ c j), over_quarters]
  isplitl [HO]; · iexact HO
  isplitl [Hzb]; · iexact Hzb
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  isplitl [Hx]; · iexact Hx
  isplitl [Hs0 Hs1 Hs2 Hs3]
  · isplitl [Hs0]; · iexact Hs0
    isplitl [Hs1]; · iexact Hs1
    isplitl [Hs2] <;> iassumption
  isplitl [Ho0]; · iexact Ho0
  isplitl [Ho1]; · iexact Ho1
  isplitl [Ho2] <;> iassumption

end Cert.KernelIdeal.Exchange

end
-- ==== Proof.KernelIdeal.Quarters.lean ====
/- The buffers held whole and held quarter by quarter: the same thing. -/
module

public import proofs.«01_k».proof.Proof.KernelIdeal.Plan

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slices

variable {F : FTy → Type} [FloatOps F]

local notation "𝕄" => MT nD τ sig Unit (Elt F) ℕ UU ℕ

variable (m : (ℓ : Loc nD τ sig) → Buf (Elt F) ℓ) (ρ : Dev nD → PrngReg)

/-! ## The rectangles cover their buffers -/

theorem rows_apart (i j : Fin 4) (h : i ≠ j) : Disjoint (rows i).set (rows j).set :=
  Ring.lead_disjoint (s := S1024x512) (NB := 4) 0 256 (fun i => ![256 * i.val, 0]) S256x512.size rows_inb (fun _ => rfl) rfl i j h
theorem rows_cover : Finset.univ.biUnion (fun i => (rows i).set) = Finset.univ :=
  Ring.lead_cover (s := S1024x512) (NB := 4) 0 256 (fun i => ![256 * i.val, 0]) S256x512.size rows_inb (fun _ => rfl)
    (fun b a ha => by fin_cases a; exacts [absurd rfl ha, rfl]) rfl (fun a ha => by fin_cases a; exacts [absurd rfl ha, rfl]) rfl

theorem mem_slot {j : Fin 8} {k : S2x1024x512.Idx} :
    k ∈ (slot j).set ↔ j.val / 4 = (k 0).val ∧ j.val % 4 = (k 1).val / 256 := by
  rw [Rect.mem_set_unit]
  have h0 : (k 0).val < 2 := (k 0).isLt
  have h1 : (k 1).val < 1024 := (k 1).isLt
  have h2 : (k 2).val < 512 := (k 2).isLt
  constructor
  · intro h
    have a0 : j.val / 4 ≤ (k 0).val ∧ (k 0).val < j.val / 4 + 1 := h 0
    have a1 : 256 * (j.val % 4) ≤ (k 1).val ∧ (k 1).val < 256 * (j.val % 4) + 256 := h 1
    omega
  · intro h a
    fin_cases a
    · show j.val / 4 ≤ (k 0).val ∧ (k 0).val < j.val / 4 + 1; omega
    · show 256 * (j.val % 4) ≤ (k 1).val ∧ (k 1).val < 256 * (j.val % 4) + 256; omega
    · show 0 ≤ (k 2).val ∧ (k 2).val < 0 + 512; omega
theorem slot_apart (i j : Fin 8) (h : i ≠ j) : Disjoint (slot i).set (slot j).set := by
  rw [Finset.disjoint_left]
  intro k hi hj
  have hi := mem_slot.mp hi
  have hj := mem_slot.mp hj
  exact h (Fin.ext (by omega))
theorem slot_cover : Finset.univ.biUnion (fun j => (slot j).set) = Finset.univ := by
  ext k
  simp only [Finset.mem_biUnion, Finset.mem_univ, true_and, iff_true]
  have h0 : (k 0).val < 2 := (k 0).isLt
  have h1 : (k 1).val < 1024 := (k 1).isLt
  exact ⟨⟨4 * (k 0).val + (k 1).val / 256, by omega⟩, mem_slot.mpr ⟨by show (4 * (k 0).val + (k 1).val / 256) / 4 = _; omega,
    by show (4 * (k 0).val + (k 1).val / 256) % 4 = _; omega⟩⟩

/-! ## The buffers cut and joined -/

/-- A buffer held at whatever contents. -/
abbrev held (c : Dev nD) (b : Ref sig .tc) : sProp 𝕄 := iprop(∃ f : Buf (Elt F) ((c : Thread nD τ).loc b), ((c : Thread nD τ).loc b) ↦{fullShare} f)

theorem sends_cut (c : Dev nD) : held (F := F) c cc0_scratch0 = bigSep Finset.univ fun i => iprop(∃ X, owns (c : Thread nD τ) (sQ i) fullShare X) :=
  held_pieces (c : Thread nD τ) cc0_scratch0 rows (fun _ _ => rfl) rows_apart rows_cover
theorem result_cut (c : Dev nD) : held (F := F) c cc0_stg1_0 = bigSep Finset.univ fun i => iprop(∃ X, owns (c : Thread nD τ) (oQ i) fullShare X) :=
  held_pieces (c : Thread nD τ) cc0_stg1_0 rows (fun _ _ => rfl) rows_apart rows_cover
theorem places_cut (c : Dev nD) : held (F := F) c cc0_scratch1 = bigSep Finset.univ fun j => iprop(∃ X, owns (c : Thread nD τ) (rQ j) fullShare X) :=
  (held_pieces (c : Thread nD τ) cc0_scratch1 slot (fun _ _ => rfl) slot_apart slot_cover).trans
    (bigSep_congr fun j _ => (unsqueeze (c : Thread nD τ) _ _ _).symm)

/-- Every element lies in the quarter named for it. -/
theorem at_row (k : S1024x512.Idx) : ∃ y, (rows (qtrAt k)).emb y = k := by
  have h0 : (k 0).val < 1024 := (k 0).isLt
  have h1 : (k 1).val < 512 := (k 1).isLt
  refine ⟨Fin.cons ⟨(k 0).val % 256, Nat.mod_lt _ (by decide)⟩ (Fin.cons ⟨(k 1).val, h1⟩ finZeroElim), funext fun a => Fin.ext ?_⟩
  fin_cases a
  · show 256 * ((k 0).val / 256) + 1 * ((k 0).val % 256) = (k 0).val; omega
  · show 0 + 1 * (k 1).val = (k 1).val; omega

/-- The quarters of the result, joined, are the result. -/
theorem result_join (c : Dev nD) :
    (bigSep Finset.univ fun i => owns (c : Thread nD τ) (oQ i) fullShare (cut i (own₂ m ρ i c)))
      ⊢ (iprop((c : Thread nD τ).loc cc0_stg1_0 ↦{fullShare} outAt m ρ c) : sProp 𝕄) := by
  refine (paste_whole (c : Thread nD τ) cc0_stg1_0 rows (fun _ _ => rfl) rows_apart rows_cover fun i => cut i (own₂ m ρ i c)).trans ?_
  iintro ⟨%f, %hf, H⟩
  have e : f = outAt m ρ c := funext fun k => by
    obtain ⟨y, hy⟩ := at_row k
    have h : f ((rows (qtrAt k)).emb y) = own₂ m ρ (qtrAt k) c ((rows (qtrAt k)).emb y) := congrFun (hf (qtrAt k)) y
    rw [hy] at h; exact h
  rw [e]; iexact H

end Cert.KernelIdeal.Exchange

end
-- ==== Proof.KernelIdeal.Deal.lean ====
/- The launch of the exchange: its bookkeeping made, dealt and handed to the devices. -/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slices

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the semaphores of a device -/

theorem swap (P Q : sProp 𝕄) : iprop(P ∗ Q) = iprop(Q ∗ P) := by
  have h (P Q : sProp 𝕄) : iprop(P ∗ Q) ⊢ iprop(Q ∗ P) := sep_comm.1
  exact BI.equiv_iff.mp ⟨h P Q, h Q P⟩
/-- Over an optional index: the one without and the ones with. -/
theorem over_option {I : Type} [Fintype I] (Φ : Option I → sProp 𝕄) :
    bigSep Finset.univ Φ = iprop(Φ none ∗ bigSep Finset.univ fun i => Φ (some i)) := by
  rw [bigSep_univ_equiv (Equiv.optionEquivSumPUnit.{0} I).symm, bigSep_univ_sum, bigSep_univ_of_subsingleton PUnit.unit]
  exact swap _ _
theorem over_bool (Φ : Bool → sProp 𝕄) : bigSep Finset.univ Φ = iprop(Φ false ∗ Φ true) :=
  bigSep_univ_eq_bigSepL [false, true] (by decide) (by decide) Φ
/-- Over the messages' semaphores: message by message, the one for leaving and the one for arriving. -/
theorem over_ends (Φ : Bool × Fin 8 → sProp 𝕄) :
    bigSep Finset.univ Φ = iprop((bigSep Finset.univ fun j => Φ (false, j)) ∗ bigSep Finset.univ fun j => Φ (true, j)) := by
  rw [bigSep_univ_prod, over_bool]
/-- Some of the members, by a naming that repeats none. -/
theorem some_of {I J : Type} [Fintype I] [Fintype J] [DecidableEq J] (e : I ↪ J) (Φ : J → sProp 𝕄) :
    bigSep Finset.univ Φ ⊢ bigSep Finset.univ fun i => Φ (e i) := by
  rw [← bigSep_map e]; exact bigSep_subset (Finset.subset_univ _)

/-! ## What a device starts from -/

/-- The positions at device `c`'s semaphores and the right to do what it alone will do. -/
def linear (c : Dev nD) : sProp 𝕄 :=
  iprop(atPos EX (barC c) 0 ∅ 0 ∗ dutyTok EX (barC (nb false c)) 0 false ∗ dutyTok EX (barC (nb true c)) 0 true
    ∗ (bigSep Finset.univ fun j => dutyTok EX (outC c j) 0 false) ∗ (bigSep Finset.univ fun j => dutyTok EX (inC (peer j c) j) 0 false)
    ∗ (bigSep Finset.univ fun j => atPos EX (outC c j) 0 ∅ 0) ∗ (bigSep Finset.univ fun j => atPos EX (inC c j) 0 ∅ 0))
/-- That beside the common knowledge. -/
def ghost (c : Dev nD) : sProp 𝕄 := iprop(∃ K, records m ρ K ∗ linear c)
/-- And the credit for what will come, and the order of the waits. -/
def start (c : Dev nD) : sProp 𝕄 :=
  iprop(ghost m ρ c ∗ cred (tallyAt (barC c) () 2) ∗ (bigSep Finset.univ fun j => cred (tallyAt (inC c j) () N)) ∗ levAts L lv)

/-! ## The semaphores' bookkeeping, made at launch -/

def cellEmb : Dev nD × Role ↪ GSem nD τ sig :=
  ⟨fun ck => cell ck.1 ck.2, fun a b h => Prod.ext (cell_inj h).1 (cell_inj h).2⟩
/-- The duties of a device's own semaphores: two of the handshake, one of each end of each message. -/
abbrev Duty : Type := Bool ⊕ (Bool × Fin 8)
abbrev dutyAt (c : Dev nD) : Duty → GSem nD τ sig × ℕ × Bool
  | .inl b => (barC c, 0, b)
  | .inr bj => (cell c (some bj), 0, false)
theorem dutyAt_injective : Function.Injective fun cd : Dev nD × Duty => dutyAt cd.1 cd.2 := by
  rintro ⟨c, d⟩ ⟨c', d'⟩ h
  rcases d with b | bj <;> rcases d' with b' | bj' <;> obtain ⟨rfl, hk⟩ := cell_inj (congrArg Prod.fst h)
  · rw [show b = b' from congrArg (fun x => x.2.2) h]
  · exact absurd hk (Option.some_ne_none _).symm
  · exact absurd hk (Option.some_ne_none _)
  · rw [Option.some.inj hk]
def dutyEmb : Dev nD × Duty ↪ GSem nD τ sig × ℕ × Bool := ⟨_, dutyAt_injective⟩

def cells : Finset (GSem nD τ sig) := Finset.univ.map cellEmb
def duties : Finset (GSem nD τ sig × ℕ × Bool) := Finset.univ.map dutyEmb

/-- The initial bookkeeping: the library's for the kernel's own memory and the exchange's. -/
def u₀ : UU := (initOf (Pipeline.cells cfgs cellOf_inj) (Pipeline.launchToks cfgs cellOf_inj), initOf cells duties)

/-- The duties of device `c`'s own semaphores. -/
def ownDuties (c : Dev nD) : sProp 𝕄 :=
  iprop((bigSep Finset.univ fun b => dutyTok EX (barC c) 0 b) ∗ bigSep Finset.univ fun bj => dutyTok EX (cell c (some bj)) 0 false)
/-- What of the bookkeeping is device `c`'s. -/
def dealt (c : Dev nD) : sProp 𝕄 :=
  iprop((bigSep Finset.univ fun k => roundState EX (sched m ρ) (cell c k) 0) ∗ (bigSep Finset.univ fun k => reached EX (cell c k) 0)
    ∗ (bigSep Finset.univ fun k => atPos EX (cell c k) 0 ∅ 0) ∗ ownDuties c)

theorem deal : BI.own (EX (initOf cells duties)) ⊢ (|==> bigSep Finset.univ (dealt m ρ) : sProp 𝕄) := by
  have hC (Φ : GSem nD τ sig → sProp 𝕄) : bigSep cells Φ = bigSep Finset.univ fun c => bigSep Finset.univ fun k => Φ (cell c k) := by
    unfold cells; rw [bigSep_map, bigSep_univ_prod]; rfl
  have hD : bigSep duties (fun x => (dutyTok EX x.1 x.2.1 x.2.2 : sProp 𝕄)) = bigSep Finset.univ fun c => ownDuties c := by
    unfold duties; rw [bigSep_map, bigSep_univ_prod]
    exact bigSep_congr fun c _ => by unfold ownDuties; rw [bigSep_univ_sum]; rfl
  iintro H
  imod (Rounds.fund EX (sched m ρ) cells duties) $$ H with ⟨Hs, Hr, Hp, Hd⟩
  imodintro
  ihave Hs := (Entails.of_eq (hC fun g => roundState EX (sched m ρ) g 0)) $$ Hs
  ihave Hr := (Entails.of_eq (hC fun g => reached EX g 0)) $$ Hr
  ihave Hp := (Entails.of_eq (hC fun g => atPos EX g 0 ∅ 0)) $$ Hp
  ihave Hd := (Entails.of_eq hD) $$ Hd
  unfold dealt; simp only [bigSep_sep']
  isplitl [Hs]; · iexact Hs
  isplitl [Hr]; · iexact Hr
  isplitl [Hp] <;> iassumption

/-- The messages' semaphores are the kernel's own; -/
abbrev osem (bj : Bool × Fin 8) : SemLoc sig := semOf (some bj)
abbrev zeros (c : Dev nD) : sProp 𝕄 := Pipeline.ownSems0 (Ix := Unit) (Name := ℕ) (U := UU) (Lvl := ℕ) (Val := Elt F) (τ := τ) osem c
/-- the handshake's outlives it. -/
theorem handshake_zero (c : Dev nD) : (unscopedSems0 c : sProp 𝕄) = semVal (barC c) 0 := by
  unfold unscopedSems0; rw [bigSep_eq_bigSepL_of_eq [SemLoc.reg barS] (by decide) (by decide)]; rfl
theorem own_zeros (c : Dev nD) :
    zeros (F := F) c = iprop((bigSep Finset.univ fun j => semVal (outC c j) 0) ∗ bigSep Finset.univ fun j => semVal (inC c j) 0) :=
  over_ends fun bj => semVal (cell c (some bj)) 0
theorem all_zeros (c : Dev nD) :
    iprop(zeros (F := F) c ∗ unscopedSems0 c) ⊢ (bigSep Finset.univ fun k : Role => semVal (cell c k) 0 : sProp 𝕄) := by
  rw [handshake_zero, over_option fun k : Role => (semVal (cell c k) 0 : sProp 𝕄)]
  exact Entails.of_eq (swap _ _)

/-- A device's semaphores under the schedule. -/
def governed (c : Dev nD) : sProp 𝕄 :=
  iprop((bigSep Finset.univ fun k : Role => iprop(∃ κ : ℕ, cellInv EX (sched m ρ) κ (cell c k)))
    ∗ (bigSep Finset.univ fun k : Role => reached EX (cell c k) 0) ∗ (bigSep Finset.univ fun k : Role => atPos EX (cell c k) 0 ∅ 0) ∗ ownDuties c)

/-- A device's semaphores come under the schedule. -/
theorem govern (c : Dev nD) :
    iprop(zeros c ∗ unscopedSems0 c ∗ dealt m ρ c)
      ⊢ (|={Set.univ}=> governed m ρ c : sProp 𝕄) := by
  unfold dealt governed
  iintro ⟨Hz, Hu, Hs, Hrest⟩
  ihave Hv := (all_zeros (F := F) c) $$ [Hz Hu]
  · isplitl [Hz] <;> iassumption
  imod (show iprop((bigSep Finset.univ fun k : Role => semVal (cell c k) 0) ∗ bigSep Finset.univ fun k => roundState EX (sched m ρ) (cell c k) 0)
      ⊢ (|={Set.univ}=> bigSep Finset.univ fun k => iprop(∃ κ : ℕ, cellInv EX (sched m ρ) κ (cell c k)) : sProp 𝕄) from by
        rw [← bigSep_sep']
        exact (bigSep_mono fun k _ => (Rounds.body_intro EX (sched m ρ) (cell c k)).trans inv_alloc).trans (bigSep_fupd _ _)) $$ [Hv Hs] with HI
  · isplitl [Hv] <;> iassumption
  imodintro
  isplitl [HI]; · iexact HI
  iexact Hrest

/-- Every duty goes to the device that will do it. -/
theorem hand_round :
    iprop((bigSep Finset.univ fun c : Dev nD => bigSep Finset.univ fun k => atPos EX (cell c k) 0 ∅ 0) ∗ bigSep Finset.univ fun c : Dev nD => ownDuties c)
      ⊢ (bigSep Finset.univ fun c : Dev nD => linear c : sProp 𝕄) := by
  have hin : (bigSep Finset.univ fun c : Dev nD => bigSep Finset.univ fun j => (dutyTok EX (inC c j) 0 false : sProp 𝕄))
      = bigSep Finset.univ fun c : Dev nD => bigSep Finset.univ fun j => dutyTok EX (inC (peer j c) j) 0 false := by
    rw [bigSep_univ_comm, bigSep_univ_comm (fun (c : Dev nD) (j : Fin 8) => (dutyTok EX (inC (peer j c) j) 0 false : sProp 𝕄))]
    exact bigSep_congr fun j _ => bigSep_univ_equiv (across (side j)) _
  unfold ownDuties linear
  simp only [over_option, over_ends, over_bool, bigSep_sep']
  rw [hin, bigSep_univ_equiv (across false) (fun c => (dutyTok EX (barC c) 0 false : sProp 𝕄)),
    bigSep_univ_equiv (across true) (fun c => (dutyTok EX (barC c) 0 true : sProp 𝕄))]
  iintro ⟨⟨Hb, Ho, Hi⟩, ⟨Htf, Htt⟩, Hto, Hti⟩
  isplitl [Hb]; · iexact Hb
  isplitl [Htf]; · iexact Htf
  isplitl [Htt]; · iexact Htt
  isplitl [Hto]; · iexact Hto
  isplitl [Hti]; · iexact Hti
  isplitl [Ho] <;> iassumption

/-- Every device learns of all the semaphores and takes what is its own. -/
theorem learn :
    (bigSep Finset.univ fun c : Dev nD => governed m ρ c : sProp 𝕄)
      ⊢ bigSep Finset.univ (ghost m ρ) := by
  unfold governed; simp only [bigSep_sep']
  rw [← bigSep_univ_prod (fun ck : Dev nD × Role => iprop(∃ κ : ℕ, cellInv EX (sched m ρ) κ (cell ck.1 ck.2))),
    ← bigSep_univ_prod (fun ck : Dev nD × Role => (reached EX (cell ck.1 ck.2) 0 : sProp 𝕄))]
  iintro ⟨HI, Hr, Hp, Hd⟩
  ihave HI := (BI.bigSep_exists_pi Finset.univ (fun (ck : Dev nD × Role) (κ : ℕ) => (cellInv EX (sched m ρ) κ (cell ck.1 ck.2) : sProp 𝕄))) $$ HI
  icases HI with ⟨%K, HI⟩
  ihave Hl := (hand_round (F := F)) $$ [Hp Hd]
  · isplitl [Hp] <;> iassumption
  ihave HR := (Entails.of_eq (bigSep_sep' Finset.univ (fun ck : Dev nD × Role => (cellInv EX (sched m ρ) (K ck) (cell ck.1 ck.2) : sProp 𝕄))
    (fun ck => reached EX (cell ck.1 ck.2) 0)).symm) $$ [HI Hr]
  · isplitl [HI] <;> iassumption
  have each : iprop(records m ρ K ∗ bigSep Finset.univ fun c : Dev nD => linear c) ⊢ bigSep Finset.univ (ghost m ρ) := by
    refine (sep_mono_left (BI.bigSep_of_persistent (Finset.univ : Finset (Dev nD)) (records m ρ K))).trans ?_
    rw [← bigSep_sep']
    refine bigSep_mono fun c _ => ?_
    show iprop(records m ρ K ∗ linear c) ⊢ iprop(∃ K, records m ρ K ∗ linear c)
    iintro H; iexists K; iexact H
  iapply each
  isplitl [HR]
  · unfold records; iexact HR
  · iexact Hl

/-- All devices' semaphores come under the schedule at once. -/
theorem govern_all : (bigSep Finset.univ fun c => iprop(zeros c ∗ unscopedSems0 c ∗ dealt m ρ c) : sProp 𝕄) ⊢ |={Set.univ}=> bigSep Finset.univ (ghost m ρ) :=
  ((bigSep_mono fun c _ => govern m ρ c).trans (bigSep_fupd _ _)).trans (BI.fupd_mono (learn m ρ))

/-! ## The credit -/

theorem due_bar (d c : Dev nD) (l : List (Fin 8)) : due d l (barC c) = 0 := by
  induction l with
  | nil => rfl
  | cons j l ih =>
    unfold due
    rw [Pi.add_apply, ih, tallyAt_ne_cell (fun h => Option.some_ne_none _ (cell_inj h).2.symm), add_zero]
theorem due_in (d c : Dev nD) (j : Fin 8) (l : List (Fin 8)) : due d l (inC c j) () = if d = peer j c then l.count j * N else 0 := by
  induction l with
  | nil => unfold due; rw [List.count_nil, Nat.zero_mul, ite_self]; rfl
  | cons i l ih =>
    have one : (tallyAt (inC (peer i d) i) () N : CellTallies nD τ sig Unit) (inC c j) () = if d = peer j c then (if i = j then N else 0) else 0 := by
      rw [tallyAt_apply]
      by_cases hi : i = j
      · subst hi
        by_cases hd : d = peer i c
        · subst hd; rw [if_pos ⟨by rw [peer_peer], rfl⟩, if_pos rfl, if_pos rfl]
        · rw [if_neg fun h => hd (by rw [(cell_inj h.1).1, peer_peer]), if_neg hd]
      · rw [if_neg fun h => hi (congrArg Prod.snd (Option.some.inj (cell_inj h.1).2)).symm, if_neg hi, ite_self]
    unfold due
    rw [Pi.add_apply, Finsupp.add_apply, ih, one, List.count_cons]
    by_cases hd : d = peer j c <;> by_cases hi : i = j <;> simp [hd, hi, Nat.add_mul]

theorem owed_in (d c : Dev nD) (j : Fin 8) : O₀ d (inC c j) () = if d = peer j c then N else 0 := by
  unfold O₀ O₁
  rw [Pi.add_apply, Pi.add_apply, tallyAt_ne_cell (fun h => Option.some_ne_none _ (cell_inj h).2), tallyAt_ne_cell (fun h => Option.some_ne_none _ (cell_inj h).2),
    add_zero, add_zero, due_in, show order.count j = 1 by revert j; decide, Nat.one_mul]
theorem tally_bar (d c : Dev nD) (b : Bool) : (tallyAt (barC (nb b d)) () 1 : CellTallies nD τ sig Unit) (barC c) () = if d = nb b c then 1 else 0 := by
  rw [tallyAt_apply]
  by_cases h : d = nb b c
  · subst h; rw [nb_nb, if_pos ⟨rfl, rfl⟩, if_pos rfl]
  · rw [if_neg h, if_neg fun h' => h (by rw [(cell_inj h'.1).1, nb_nb])]
theorem owed_bar (d c : Dev nD) : O₀ d (barC c) () = (if d = nb true c then 1 else 0) + if d = nb false c then 1 else 0 := by
  unfold O₀ O₁
  rw [Pi.add_apply, Finsupp.add_apply, Pi.add_apply, Finsupp.add_apply, due_bar, tally_bar, tally_bar, Finsupp.zero_apply, Nat.zero_add]

theorem credit_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]
theorem credit_in (c : Dev nD) (j : Fin 8) :
    tallyOn (inC c j) (launchCredit (Pipeline.owing O₀) 0 (inC c j)) = (tallyAt (inC c j) () N : CellTallies nD τ sig Unit) := by
  unfold tallyAt; refine congrArg _ (Finsupp.ext fun u => ?_); cases u
  rw [Pipeline.launchCredit_owing, Finsupp.single_eq_same, Finset.sum_congr rfl fun d _ => owed_in d c j,
    Finset.sum_ite_eq' Finset.univ (peer j c) fun _ => N, if_pos (Finset.mem_univ _)]

/-- The semaphores something is owed to, among all. -/
def owedEmb : Option (Fin 8) ↪ SemLoc sig :=
  ⟨fun o => semOf (o.map fun j => (true, j)), fun a b h => Option.map_injective (fun j j' e => congrArg Prod.snd e) (semOf_injective h)⟩
theorem credits (c : Dev nD) :
    (Pipeline.launchCred O₀ c : sProp 𝕄) ⊢ iprop(cred (tallyAt (barC c) () 2) ∗ bigSep Finset.univ fun j => cred (tallyAt (inC c j) () N)) := by
  unfold Pipeline.launchCred
  refine (some_of owedEmb _).trans (Entails.of_eq ?_)
  rw [over_option]
  show iprop(cred (tallyOn (barC c) (launchCredit (Pipeline.owing O₀) 0 (barC c)))
    ∗ bigSep Finset.univ fun j => cred (tallyOn (inC c j) (launchCredit (Pipeline.owing O₀) 0 (inC c j)))) = _
  rw [credit_bar, bigSep_congr fun j _ => congrArg cred (credit_in c j)]

end Cert.KernelIdeal.Exchange

end
-- ==== Proof.KernelIdeal.Run.lean ====
/- The run of the whole program, from the body and the launch. -/
module

public import proofs.«01_k».proof.Proof.KernelIdeal.Body
public import proofs.«01_k».proof.Proof.KernelIdeal.Quarters
public import proofs.«01_k».proof.Proof.KernelIdeal.Deal
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Slices

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own memory around the body -/

/-- Before the body: what the launch dealt, and the two scratch buffers at whatever they hold. -/
def before (c : Dev nD) : sProp 𝕄 := iprop(start m ρ c ∗ held c cc0_scratch0 ∗ held c cc0_scratch1)
/-- After it: the scratch buffers, and every semaphore at zero. -/
def after (c : Dev nD) : sProp 𝕄 := iprop((held c cc0_scratch0 ∗ held c cc0_scratch1) ∗ unscopedSems0 c ∗ zeros c)

/-- The kernel's one point: its block comes in, its result goes out, and between the two the debts are paid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => own₀ m ρ c
    | ⟨1, _⟩ => outAt m ρ c
  Φ t := match t with
    | ⟨0, _⟩ => before m ρ c
    | ⟨_ + 1, _⟩ => after c
  q _ := fullShare
  owed t := match t with
    | ⟨0, _⟩ => O₀ c
    | ⟨_ + 1, _⟩ => 0

/-- A staging buffer at given contents. -/
abbrev at_ (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_buffer (c : Dev nD) (b : Ref sig .tc) (X : b.ty.Contents (Elt F)) :
    (owns (Ix := Unit) (Name := ℕ) (U := UU) (Lvl := ℕ) (c : Thread nD τ) (Memref.whole b) fullShare X : sProp 𝕄) = at_ c b X := by
  unfold owns; simp only [Memref.view_whole, View.read_whole, View.set_whole]

theorem kits (c : Dev nD) :
    iprop((bigSep Finset.univ fun j => dutyTok EX (outC c j) 0 false) ∗ (bigSep Finset.univ fun j => dutyTok EX (inC (peer j c) j) 0 false)
        ∗ (bigSep Finset.univ fun j => atPos EX (outC c j) 0 ∅ 0) ∗ (bigSep Finset.univ fun j => atPos EX (inC c j) 0 ∅ 0)
        ∗ bigSep Finset.univ fun j => cred (tallyAt (inC c j) () N))
      ⊢ (bigSep Finset.univ fun j => kit c j : sProp 𝕄) := by
  unfold kit; simp only [bigSep_sep']
  iintro H; iexact H
theorem unkit (c : Dev nD) :
    (bigSep Finset.univ fun j => settled m ρ c j)
      ⊢ iprop((bigSep Finset.univ fun j => semVal (outC c j) 0) ∗ (bigSep Finset.univ fun j => semVal (inC c j) 0)
        ∗ bigSep Finset.univ fun j => iprop(∃ X, owns (c : Thread nD τ) (rQ j) fullShare X)) := by
  have h : (bigSep Finset.univ fun j => settled m ρ c j)
      ⊢ bigSep Finset.univ fun j => iprop(semVal (outC c j) 0 ∗ semVal (inC c j) 0 ∗ ∃ X, owns (c : Thread nD τ) (rQ j) fullShare X) :=
    bigSep_mono fun j _ => by
      show settled m ρ c j ⊢ iprop(semVal (outC c j) 0 ∗ semVal (inC c j) 0 ∗ ∃ X, owns (c : Thread nD τ) (rQ j) fullShare X)
      unfold settled
      iintro ⟨H1, H2, H3⟩
      isplitl [H1]; · iexact H1
      isplitl [H2]; · iexact H2
      iexists _; iexact H3
  refine h.trans (Entails.of_eq ?_)
  simp only [bigSep_sep']

def bodyBefore (c : Dev nD) : sProp 𝕄 :=
  iprop(before m ρ c ∗ (dats m ρ 0 c).owesAt () t0_0.castSucc
    ∗ (∃ d, at_ c cc0_stg0_0 ((dats m ρ 0 c).before (0 : Fin 2) t0_0 d))
    ∗ (∃ d, at_ c cc0_stg1_0 ((dats m ρ 0 c).before (1 : Fin 2) t0_0 d)))
def bodyAfter (c : Dev nD) : sProp 𝕄 :=
  iprop(after c ∗ (dats m ρ 0 c).owesAt () t0_0.succ ∗ at_ c cc0_stg0_0 (own₀ m ρ c) ∗ at_ c cc0_stg1_0 (outAt m ρ c))

theorem enter (c : Dev nD) : bodyBefore m ρ c ⊢ iprop(∃ K, bodyIn m ρ K c) := by
  unfold bodyBefore before start ghost linear
  rw [sends_cut, places_cut]
  iintro ⟨⟨⟨⟨%K, #HR, Hb, Htf, Htt, Hto, Hti, Hpo, Hpi⟩, Hcb, Hci, #Hlev⟩, Hs, Hr⟩, Ho, ⟨%d0, %g0, %hg0, Hx⟩, ⟨%d1, %g1, %hg1, Hz⟩⟩
  have hx : g0 = own₀ m ρ c := by rw [hg0]; unfold Dat.before; rw [if_pos (show (cfg0.win (0 : Fin 2)).fetch t0_0 = true from rfl)]; rfl
  subst hx
  unfold Dat.owesAt Pipeline.owesWithin
  icases Ho with ⟨%W, %hW, HO⟩
  rw [show (dats m ρ 0 c).owed t0_0.castSucc = O₀ c from rfl]
  ihave Hk := (kits (F := F) c) $$ [Hto Hti Hpo Hpi Hci]
  · isplitl [Hto]; · iexact Hto
    isplitl [Hti]; · iexact Hti
    isplitl [Hpo]; · iexact Hpo
    isplitl [Hpi] <;> iassumption
  ihave Hz := (Entails.of_eq (result_cut (F := F) c)) $$ [Hz]
  · iexists g1; iexact Hz
  iexists K
  unfold bodyIn owing xHeld
  isplitr; · iexact HR
  isplitr; · iexact Hlev
  isplitl [HO]; · iexists W; iexact HO
  isplitl [Hb]; · iexact Hb
  isplitl [Hcb]; · iexact Hcb
  isplitl [Htf]; · iexact Htf
  isplitl [Htt]; · iexact Htt
  isplitl [Hk]; · iexact Hk
  isplitl [Hx]; · iexact Hx
  isplitl [Hs]; · iexact Hs
  isplitl [Hz] <;> iassumption

theorem leave (c : Dev nD) : bodyOut m ρ c ⊢ bodyAfter m ρ c := by
  unfold bodyAfter after bodyOut owing xHeld
  rw [sends_cut, places_cut, own_zeros, handshake_zero]
  iintro ⟨⟨%W, HO⟩, Hb, Hk, Hx, Hs, Hz⟩
  ihave Hk := (unkit m ρ c) $$ Hk
  icases Hk with ⟨Ho, Hi, Hr⟩
  ihave Hz := (result_join m ρ c) $$ Hz
  isplitl [Hb Hs Ho Hi Hr]
  · isplitl [Hs Hr]
    · isplitl [Hs] <;> iassumption
    isplitl [Hb]; · iexact Hb
    isplitl [Ho] <;> iassumption
  isplitl [HO]
  · unfold Dat.owesAt Pipeline.owesWithin
    iexists W
    isplitr; · (ipureintro; exact fun _ _ => Or.inl trivial)
    iexact HO
  isplitl [Hx]
  · iexists _; isplitr; · (ipureintro; rfl)
    iexact Hx
  iexists _; isplitr; · (ipureintro; rfl)
  iexact Hz

set_option maxRecDepth 4000 in
/-- The body does what the launch asks of it. -/
theorem body_obligation (c : Dev nD) : BodyObligation (dats (F := F) m ρ 0 c) (defs₀ (F := F)) 𝒱₀ () Set.univ := fun t => by
  rw [show t = t0_0 from fin_N0 t, show (Finset.univ : Finset (Fin cfg0.W)) = (Finset.univ : Finset (Fin 2)) from rfl]
  rw [bigSep_W0, bigSep_W0]
  simp only [owns_buffer]
  show bodyBefore m ρ c ⊢ WP c (cc0_body xM (Memref.isWhole_whole _) oM (Memref.isWhole_whole _) sM (Memref.isWhole_whole _) rM (Memref.isWhole_whole _)
    cc0_scratch2 cc0_scratch3) (fun _ => bodyAfter m ρ c)
  refine (enter m ρ c).trans ?_
  iintro ⟨%K, H⟩
  iapply (sound_body m ρ K c fun _ => bodyAfter m ρ c)
  isplitl [H]; · iexact H
  iapply (leave m ρ c)

/-! ## The run -/

theorem own_sem_facts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (credits (F := F) c) $$ Hcr
  icases Hc with ⟨Hb, Hi⟩
  imodintro
  unfold start
  isplitl
  · isplitl [HG]; · iexact HG
    isplitl [Hb]; · iexact Hb
    isplitl [Hi] <;> iassumption
  · iempintro

theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

theorem after_elim (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after
  iintro ⟨Hr, Hu, Hz⟩
  isplitl [Hu]; · iexact Hu
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` of device `c` holds at the end. -/
def endAt (c : Dev nD) (w : Fin cfg0.W) : Buf (Elt F) ((cfg0.win w).arr.view.loc (c : Thread nD τ)) := (dats m ρ 0 c).arrAt w cfg0.N
def Ended : PUnit × MemSt nD τ sig (Elt F) → Prop := fun r =>
  ∀ c : Dev nD, ∀ w : Fin cfg0.W, r.2.mem ((cfg0.win w).arr.view.loc (c : Thread nD τ)) = endAt m ρ c w

set_option maxRecDepth 8000 in
/-- On four devices, over any float values and from any memory: every fair execution ends, with each device's arrays at
    the computed contents and every semaphore at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sem_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := govern_all m ρ)
    (hA := fun _ _ => rfl) (hpf := fun _ k => k.elim0)
    (X := start m ρ) (Y := fun c => unscopedSems0 c) (Z := fun _ => iprop(emp))
    (hX := start_intro m ρ) (hin := before_intro m ρ) (hout := after_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is what it was. -/
theorem end_arg (c : Dev nD) : endAt m ρ c (0 : Fin 2) = (s₀ m ρ).mem (win0_0.arr.view.loc (c : Thread nD τ)) :=
  (dats (F := F) m ρ 0 c).arrAt_in (0 : Fin 2) rfl _

end Cert.KernelIdeal.Exchange

end
-- ==== Proof.Value.Result.lean ====
/- What the run leaves in each device's result, read off the run of the whole program. -/
module

public import proofs.«01_k».proof.Proof.KernelIdeal.Run

@[expose] public section

noncomputable section

namespace Cert.KernelIdeal.Exchange

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Device `c`'s block is its whole argument. -/
theorem own₀_eq (c : Dev nD) : own₀ m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _

/-- The result array ends at the block written back, which is all of it. -/
theorem end_result (c : Dev nD) : endAt m ρ c (1 : Fin 2) = outAt m ρ c := by
  have h : (win0_1.blk (0 : Fin 1)).view.read (Elt F) (endAt m ρ c (1 : Fin 2)) = outAt m ρ c := by
    unfold endAt
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [← h]
  exact (Memref.read_access_unit_zero (Elt F) main_v1 (off := fun a => win0_1.index (0 : Fin 1) a * main_v1.ty.shape.size a)
    (funext fun a => by fin_cases a <;> decide) (fun a => by fin_cases a <;> decide) _).symm

end Cert.KernelIdeal.Exchange

end
-- ==== Proof.Value.Shards.lean ====
/- The mathematics: the two exchanges of a quarter sum the four shards, and so does the reference. -/
module

public import proofs.«01_k».proof.Defs
public import proofs.«01_k».proof.Proof.Gen.ReferenceIdeal.Run
public import proofs.«01_k».proof.Proof.Value.Result
public import Idealize.ShloMosaic.Lib.IdealHost
public import Idealize.ShloMosaic.Lib.Pointwise

@[expose] public section

noncomputable section

namespace Cert.Shards

open Idealize.ShloMosaic Idealize.SL.Sem
open Idealize.ShloMosaic.TcCoe

/-- The whole array, over the extended reals. -/
abbrev Whole := (⟨2, ![2048, 1024]⟩ : Shape).Idx → EReal
/-- A shard. -/
abbrev Shard := (⟨2, ![1024, 512]⟩ : Shape).Idx → EReal

set_option backward.proofsInPublic true in
/-- The place in the whole array of entry `k` of the shard at `(a, b)` of the square. -/
def place (a b : Fin 2) (k : (⟨2, ![1024, 512]⟩ : Shape).Idx) : (⟨2, ![2048, 1024]⟩ : Shape).Idx :=
  ix2 (n0 := 2048) (n1 := 1024)
    ⟨1024 * a.val + (k 0).val, by have : (k 0).val < 1024 := (k 0).isLt; omega⟩
    ⟨512 * b.val + (k 1).val, by have : (k 1).val < 512 := (k 1).isLt; omega⟩

/-- The sum of the four shards. -/
def total (x : Whole) : Shard := fun k => ∑ p : Fin 2 × Fin 2, x (place p.1 p.2 k)

/-! ## The reference -/

/-- Summing the shards' two axes of the reshaped array is the sum of the four shards. -/
theorem reduce_reshape (x : Whole) (hc : (⟨2, ![2048, 1024]⟩ : Shape).ShapeCasts ⟨4, ![2, 1024, 2, 512]⟩)
    (hr : (⟨4, ![2, 1024, 2, 512]⟩ : Shape).ReducesTo [0, 2] ⟨2, ![1024, 512]⟩) (init : EReal) :
    Ideal.hostReduceAdd hr (shapeCast _ x hc) init = fun k => init + total x k := by
  funext k
  unfold Ideal.hostReduceAdd total
  have h1 : ∀ i, (hr.drop i 0 : ℕ) = i 1 := fun i => hr.drop_apply_val_of_eq i 0 1
  have h3 : ∀ i, (hr.drop i 1 : ℕ) = i 3 := fun i => hr.drop_apply_val_of_eq i 1 3
  refine congrArg (init + ·) ?_
  rw [Finset.sum_filter_eq_sum_of_fiber (fun i => hr.drop i = k)
    (fun p : Fin 2 × Fin 2 => ix4 (n0 := 2) (n1 := 1024) (n2 := 2) (n3 := 512) p.1 (k 0) p.2 (k 1))
    (fun p q e => Prod.ext (congrFun e 0) (congrFun e 2)) (fun i => ?_)]
  · refine Finset.sum_congr rfl fun p _ => shapeCast_apply x hc _ (place p.1 p.2 k) ?_
    rw [Shape.rowMajor_val_two, Shape.rowMajor_val_four]
    show (1024 * p.1.val + (k 0).val) * 1024 + (512 * p.2.val + (k 1).val)
      = ((p.1.val * 1024 + (k 0).val) * 2 + p.2.val) * 512 + (k 1).val
    omega
  · constructor
    · intro e
      refine ⟨(i 0, i 2), funext fun a => ?_⟩
      subst e
      match a with
      | ⟨0, _⟩ => rfl
      | ⟨1, _⟩ => exact Fin.ext (h1 i)
      | ⟨2, _⟩ => rfl
      | ⟨3, _⟩ => exact Fin.ext (h3 i)
    · rintro ⟨p, rfl⟩
      refine funext fun a => ?_
      match a with
      | ⟨0, _⟩ => exact Fin.ext (h1 _)
      | ⟨1, _⟩ => exact Fin.ext (h3 _)

/-! ## The kernel -/

/-- Crossing the square's two sides one after the other, in either order, meets all four devices: what the two sums add
up is a sum over the devices. -/
theorem crossings (f : Dev KernelIdeal.nD → EReal) (s : Bool) (c : Dev KernelIdeal.nD) :
    (f c + f (KernelIdeal.Exchange.nb s c))
      + (f (KernelIdeal.Exchange.nb (!s) c) + f (KernelIdeal.Exchange.nb s (KernelIdeal.Exchange.nb (!s) c)))
      = f 0 + f 1 + f 2 + f 3 := by
  have key : ∀ (s : Bool) (c : Dev KernelIdeal.nD), ({c, KernelIdeal.Exchange.nb s c, KernelIdeal.Exchange.nb (!s) c,
      KernelIdeal.Exchange.nb s (KernelIdeal.Exchange.nb (!s) c)} : Multiset (Dev KernelIdeal.nD)) = {0, 1, 2, 3} := by decide
  have h := congrArg (fun M => (M.map f).sum) (key s c)
  simp only [Multiset.insert_eq_cons, Multiset.map_cons, Multiset.sum_cons, Multiset.map_singleton, Multiset.sum_singleton] at h
  rw [add_assoc, h]
  simp only [add_assoc]

/-- Device `c`'s shard of the whole array. -/
abbrev shard (x : Whole) (c : Dev KernelIdeal.nD) : Shard :=
  Layout.blockN ⟨2, ![1024, 512]⟩ ⟨2, ![2048, 1024]⟩ (Layout.meshBlock [2, 2] ![[0], [1]] c) x

/-- Its coordinates in the square. -/
theorem coords (c : Dev KernelIdeal.nD) : Layout.meshLin [2, 2] c.val [0] = c.val / 2 ∧ Layout.meshLin [2, 2] c.val [1] = c.val % 2 := by
  revert c; decide

/-- The shard read at an entry. -/
theorem shard_at (x : Whole) (c : Dev KernelIdeal.nD) (k : (⟨2, ![1024, 512]⟩ : Shape).Idx) :
    shard x c k = x (place ⟨c.val / 2, by have : c.val < 4 := c.isLt; omega⟩ ⟨c.val % 2, by omega⟩ k) := by
  unfold shard
  rw [Layout.blockN_apply]
  refine congrArg x (funext fun a => Fin.ext ?_)
  rw [Layout.TilesN.idx_val]
  match a with
  | ⟨0, _⟩ =>
    show Layout.meshLin [2, 2] c.val [0] * 1024 + (k 0).val = 1024 * (c.val / 2) + (k 0).val
    rw [(coords c).1, Nat.mul_comm]
  | ⟨1, _⟩ =>
    show Layout.meshLin [2, 2] c.val [1] * 512 + (k 1).val = 512 * (c.val % 2) + (k 1).val
    rw [(coords c).2, Nat.mul_comm]

/-- The four shards, in the devices' order, make the total. -/
theorem shards_total (x : Whole) (k : (⟨2, ![1024, 512]⟩ : Shape).Idx) :
    shard x 0 k + shard x 1 k + shard x 2 k + shard x 3 k = total x k := by
  simp only [shard_at]
  unfold total
  rw [Fintype.sum_prod_type]
  simp only [Fin.sum_univ_two]
  rw [← add_assoc]
  rfl

/-- Every device's result is the total, where each holds its shard of the whole array. -/
theorem result_total (m : (ℓ : Loc KernelIdeal.nD KernelIdeal.τ KernelIdeal.sig) → Buf (Elt Ideal) ℓ) (ρ : Dev KernelIdeal.nD → PrngReg)
    (x : Whole) (hx : ∀ c : Dev KernelIdeal.nD, m ((c : Thread KernelIdeal.nD KernelIdeal.τ).loc KernelIdeal.main_arg0) = shard x c)
    (c : Dev KernelIdeal.nD) : KernelIdeal.Exchange.outAt m ρ c = total x := by
  funext k
  have h : ∀ d, KernelIdeal.Exchange.own₀ m ρ d = shard x d := fun d => (KernelIdeal.Exchange.own₀_eq m ρ d).trans (hx d)
  have hk := (crossings (fun d => shard x d k) (KernelIdeal.Exchange.side₁ (KernelIdeal.Exchange.qtrAt k)) c).trans (shards_total x k)
  simp only [← h] at hk
  exact hk

/-- What the reference computes is the total. -/
theorem reference_total [ReferenceIdeal.Facts] (x : Whole) :
    (extf .f32 (truncf .bf16 (Host.reduceAdd (F := Ideal) (extf .f32 (shapeCast ReferenceIdeal.S2x1024x2x512 x
          ReferenceIdeal.Facts₀.shapeCasts_S2048x1024_S2x1024x2x512 : FVec Ideal ReferenceIdeal.S2x1024x2x512 .bf16) ReferenceIdeal.Facts₀.bitsLt_bf16_f32)
        (constant ReferenceIdeal.S_ .f32 0x00000000#32) ReferenceIdeal.Facts₀.reducesTo_S2x1024x2x512_S1024x512_d0_2 ReferenceIdeal.Facts₀.h_S_)
      ReferenceIdeal.Facts₀.bitsLt_bf16_f32) ReferenceIdeal.Facts₀.bitsLt_bf16_f32 : FVec Ideal ReferenceIdeal.S1024x512 .f32) = total x := by
  refine (reduce_reshape x ReferenceIdeal.Facts₀.shapeCasts_S2048x1024_S2x1024x2x512
    ReferenceIdeal.Facts₀.reducesTo_S2x1024x2x512_S1024x512_d0_2 (Ideal.ofBits .f32 0#32)).trans (funext fun k => ?_)
  rw [Ideal.ofBits_zero_f32, zero_add]

end Cert.Shards

end
-- ==== Proof.lean ====
/- The five claims, from the run of the exchange (Proof/Kernel/Run.lean and its copy over the reals), the reference's
   run and the equation of the two results (Proof/Value/Shards.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Value.Shards
public import Idealize.ShloMosaic.Lib.Quiescent
public import Idealize.ShloMosaic.Adequacy
public import Idealize.ShloMosaic.Init

@[expose] public section

noncomputable section

namespace Cert.Proof

open Idealize.ShloMosaic Idealize.SL.Sem
open Idealize.ShloMosaic.TcCoe

/-- The kernel runs, keeps its argument and leaves every counter at zero. -/
theorem frame_kernel : Cert.quiescent_Kernel := fun m ρ _ =>
  (θ_run Kernel.defs _ _).mono (fun _ h => ⟨fun c => (h.1 c (0 : Fin 2)).trans (Kernel.Exchange.end_arg m ρ c), h.2⟩)
    (Kernel.Exchange.run_main (F := Bits) m ρ)

/-- So does the kernel over the reals. -/
theorem frame_ideal : Cert.quiescent_KernelIdeal := fun m ρ _ =>
  (θ_run KernelIdeal.defs _ _).mono (fun _ h => ⟨fun c => (h.1 c (0 : Fin 2)).trans (KernelIdeal.Exchange.end_arg m ρ c), h.2⟩)
    (KernelIdeal.Exchange.run_main (F := Ideal) m ρ)

/-- So does the reference, which has no semaphore. -/
theorem frame_reference : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- Every device ends with the reference's result: the sum of the four shards. -/
theorem same_function : Cert.algebraic_KernelIdeal_ReferenceIdeal := fun m ρ m' ρ' _ hx =>
  ⟨Shards.total (m' (((0 : Dev ReferenceIdeal.nD) : Thread ReferenceIdeal.nD ReferenceIdeal.τ).loc ReferenceIdeal.main_arg0)),
    (θ_run KernelIdeal.defs _ _).mono
      (fun _ h c => ⟨(h.1 c (1 : Fin 2)).trans ((KernelIdeal.Exchange.end_result m ρ c).trans (Shards.result_total m ρ _ hx c)),
        (h.1 c (0 : Fin 2)).trans (KernelIdeal.Exchange.end_arg m ρ c)⟩)
      (KernelIdeal.Exchange.run_main (F := Ideal) m ρ),
    (θ_run ReferenceIdeal.defs _ _).mono
      (fun _ h => ⟨(h 0).1.trans (Shards.reference_total _), (h 0).2⟩)
      (ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_function⟩

end Cert.Proof

end
